-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk_KernelIdeal [hPre_finite_qk_KernelIdeal : Cert.Pre_finite_qk_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_qk_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk_ReferenceIdeal [hPre_finite_qk_ReferenceIdeal : Cert.Pre_finite_qk_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_qk_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk_KernelIdeal [hKernelIdeal : Cert.KernelIdeal.Facts] [hPre_finite_qk_KernelIdeal : Cert.Pre_finite_qk_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk_ReferenceIdeal [hReferenceIdeal : Cert.ReferenceIdeal.Facts] [hPre_finite_qk_ReferenceIdeal : Cert.Pre_finite_qk_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_qk_KernelIdeal [hKernelIdeal : Cert.KernelIdeal.Facts] [hReferenceIdeal : Cert.ReferenceIdeal.Facts] [hPre_finite_qk_KernelIdeal : Cert.Pre_finite_qk_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨4, ![16, 1024, 16, 64]⟩ ⟨4, ![16, 2048, 16, 64]⟩ (Layout.meshBlock [2, 2, 4] ![[], [0], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![16, 1024, 16, 64]⟩ ⟨4, ![16, 2048, 16, 64]⟩ (Layout.meshBlock [2, 2, 4] ![[], [0], [], []] c) (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_qk_KernelIdeal : Cert.Pre_finite_qk_KernelIdeal.Facts) (hPre_finite_qk_ReferenceIdeal : Cert.Pre_finite_qk_ReferenceIdeal.Facts),
    quiescent_Kernel (hKernel := hKernel)
    ∧ quiescent_KernelIdeal (hKernelIdeal := hKernelIdeal)
    ∧ quiescent_KernelIdeal_pre_finite_qk_KernelIdeal (hKernelIdeal := hKernelIdeal) (hPre_finite_qk_KernelIdeal := hPre_finite_qk_KernelIdeal)
    ∧ quiescent_ReferenceIdeal (hReferenceIdeal := hReferenceIdeal)
    ∧ quiescent_ReferenceIdeal_pre_finite_qk_ReferenceIdeal (hReferenceIdeal := hReferenceIdeal) (hPre_finite_qk_ReferenceIdeal := hPre_finite_qk_ReferenceIdeal)
    ∧ preserves_Kernel_KernelIdeal
    ∧ algebraic_KernelIdeal_ReferenceIdeal_pre_finite_qk_KernelIdeal (hKernelIdeal := hKernelIdeal) (hReferenceIdeal := hReferenceIdeal) (hPre_finite_qk_KernelIdeal := hPre_finite_qk_KernelIdeal)
-- ==== Pre_finite_qk_KernelIdeal.lean ====
abbrev S16x1x16x64 : Shape := ⟨4, ![16, 1, 16, 64]⟩
abbrev S16x1024x16x64 : Shape := ⟨4, ![16, 1024, 16, 64]⟩
abbrev S_ : Shape := ⟨0, ![]⟩

class Facts : Prop where
  bcast_S_S16x1x16x64 : S_.BroadcastsInDim S16x1x16x64 (![] : Fin 0 → Fin S16x1x16x64.rank)
  bcast_S_S16x1024x16x64 : S_.BroadcastsInDim S16x1024x16x64 (![] : Fin 0 → Fin S16x1024x16x64.rank)

variable [Facts]

def fn {F : FTy → Type} [FloatOps F] (main_arg0 : FVec F S16x1x16x64 .f32) (main_arg1 : FVec F S16x1024x16x64 .f32) (main_arg2 : FVec F S16x1024x16x64 .f32) : IVec S16x1x16x64 1 × IVec S16x1024x16x64 1 :=
  let main_v0 : FVec F S16x1x16x64 .f32 := Host.absf main_arg0
  let main_cst : FVec F S_ .f32 := constant S_ .f32 0x7F800000#32
  let main_v1 : FVec F S16x1x16x64 .f32 := broadcastInDim S16x1x16x64 ![] bcast_S_S16x1x16x64 main_cst
  let main_v2 : IVec S16x1x16x64 1 := cmpf .olt main_v0 main_v1
  let main_v3 : FVec F S16x1024x16x64 .f32 := Host.absf main_arg1
  let main_cst_0 : FVec F S_ .f32 := constant S_ .f32 0x7F800000#32
  let main_v4 : FVec F S16x1024x16x64 .f32 := broadcastInDim S16x1024x16x64 ![] bcast_S_S16x1024x16x64 main_cst_0
  let main_v5 : IVec S16x1024x16x64 1 := cmpf .olt main_v3 main_v4
  (main_v2, main_v5)
-- ==== Pre_finite_qk_ReferenceIdeal.lean ====
abbrev S16x1x16x64 : Shape := ⟨4, ![16, 1, 16, 64]⟩
abbrev S16x2048x16x64 : Shape := ⟨4, ![16, 2048, 16, 64]⟩
abbrev S_ : Shape := ⟨0, ![]⟩

class Facts : Prop where
  bcast_S_S16x1x16x64 : S_.BroadcastsInDim S16x1x16x64 (![] : Fin 0 → Fin S16x1x16x64.rank)
  bcast_S_S16x2048x16x64 : S_.BroadcastsInDim S16x2048x16x64 (![] : Fin 0 → Fin S16x2048x16x64.rank)

variable [Facts]

def fn {F : FTy → Type} [FloatOps F] (main_arg0 : FVec F S16x1x16x64 .f32) (main_arg1 : FVec F S16x2048x16x64 .f32) (main_arg2 : FVec F S16x2048x16x64 .f32) : IVec S16x1x16x64 1 × IVec S16x2048x16x64 1 :=
  let main_v0 : FVec F S16x1x16x64 .f32 := Host.absf main_arg0
  let main_cst : FVec F S_ .f32 := constant S_ .f32 0x7F800000#32
  let main_v1 : FVec F S16x1x16x64 .f32 := broadcastInDim S16x1x16x64 ![] bcast_S_S16x1x16x64 main_cst
  let main_v2 : IVec S16x1x16x64 1 := cmpf .olt main_v0 main_v1
  let main_v3 : FVec F S16x2048x16x64 .f32 := Host.absf main_arg1
  let main_cst_0 : FVec F S_ .f32 := constant S_ .f32 0x7F800000#32
  let main_v4 : FVec F S16x2048x16x64 .f32 := broadcastInDim S16x2048x16x64 ![] bcast_S_S16x2048x16x64 main_cst_0
  let main_v5 : IVec S16x2048x16x64 1 := cmpf .olt main_v3 main_v4
  (main_v2, main_v5)
-- ==== Kernel.lean ====
abbrev S16x1x16x64 : Shape := ⟨4, ![16, 1, 16, 64]⟩
abbrev S16x1024x16x64 : Shape := ⟨4, ![16, 1024, 16, 64]⟩
abbrev S16x1024x1 : Shape := ⟨3, ![16, 1024, 1]⟩
abbrev S16x1024x1024 : Shape := ⟨3, ![16, 1024, 1024]⟩
abbrev S16x1x1024 : Shape := ⟨3, ![16, 1, 1024]⟩
abbrev S1x1024x1 : Shape := ⟨3, ![1, 1024, 1]⟩
abbrev S1x1024x1024 : Shape := ⟨3, ![1, 1024, 1024]⟩
abbrev S32x16 : Shape := ⟨2, ![32, 16]⟩
abbrev S16x1024 : Shape := ⟨2, ![16, 1024]⟩
abbrev S2 : Shape := ⟨1, ![2]⟩
abbrev S1024x1 : Shape := ⟨2, ![1024, 1]⟩
abbrev S1024x1024 : Shape := ⟨2, ![1024, 1024]⟩
abbrev S1024x16 : Shape := ⟨2, ![1024, 16]⟩
abbrev S16 : Shape := ⟨1, ![16]⟩
abbrev S1x16 : Shape := ⟨2, ![1, 16]⟩
abbrev S1024 : Shape := ⟨1, ![1024]⟩
abbrev S1x1024 : Shape := ⟨2, ![1, 1024]⟩
abbrev S_ : Shape := ⟨0, ![]⟩
abbrev S1 : Shape := ⟨1, ![1]⟩
abbrev S16x16 : Shape := ⟨2, ![16, 16]⟩

abbrev nBuf : Space → Nat
  | .hbm => 8
  | .vmem => 11
  | .smem => 0
  | _ => 0

abbrev bufTy : (tb : Table) → Fin (tcTables nBuf tb) → BufTy
  | .hbm, ⟨0, _⟩ => ⟨S16x1x16x64, .f32⟩
  | .hbm, ⟨1, _⟩ => ⟨S16x1024x16x64, .f32⟩
  | .hbm, ⟨2, _⟩ => ⟨S16x1024x16x64, .f32⟩
  | .hbm, ⟨3, _⟩ => ⟨S16x1024x1, .f32⟩
  | .hbm, ⟨4, _⟩ => ⟨S16x1024x1024, .f32⟩
  | .hbm, ⟨5, _⟩ => ⟨S16x1024x1024, .f32⟩
  | .hbm, ⟨6, _⟩ => ⟨S16x1x1024, .f32⟩
  | .hbm, ⟨7, _⟩ => ⟨S16x1x16x64, .f32⟩
  | .local _ .vmem, ⟨0, _⟩ => ⟨S1x1024x1, .f32⟩
  | .local _ .vmem, ⟨1, _⟩ => ⟨S1x1024x1, .f32⟩
  | .local _ .vmem, ⟨2, _⟩ => ⟨S1x1024x1024, .f32⟩
  | .local _ .vmem, ⟨3, _⟩ => ⟨S1x1024x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S16x1x1024, .f32⟩
  | .local _ .vmem, ⟨7, _⟩ => ⟨S32x16, .f32⟩
  | .local _ .vmem, ⟨8, _⟩ => ⟨S16x1024, .f32⟩
  | .local _ .vmem, ⟨9, _⟩ => ⟨S32x16, .f32⟩
  | .local _ .vmem, ⟨10, _⟩ => ⟨S16x1024, .f32⟩
  | _, _ => ⟨S16x1x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  (ofTc nBuf bufTy 1 11 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev barrier0 : Sem sig := 0

abbrev nD : Nat := 16
abbrev τ : Topo := Topo.v7x

variable {F : FTy → Type} [FloatOps F]

abbrev grid0 : Pipeline.Grid := ⟨1, ![16], ![false]⟩

def k0_off1 (i : grid0.Coords) : Fin 2 → Nat :=
  let arg0 : BitVec 32 := BitVec.ofNat 32 (i 0).val
  let v84 : Index := Scalar.indexCast arg0
  let c0_24 : Index := 0#32
  ![v84.toNat, 0]
def k0_off2 (i : grid0.Coords) : Fin 2 → Nat :=
  let c16_i32 : BitVec 32 := 16#32
  let arg0 : BitVec 32 := BitVec.ofNat 32 (i 0).val
  let v88 : BitVec 32 := Scalar.addi c16_i32 arg0
  let v89 : Index := Scalar.indexCast v88
  let c0_25 : Index := 0#32
  ![v89.toNat, 0]
def k0_off3 (i : grid0.Coords) : Fin 2 → Nat :=
  let arg0 : BitVec 32 := BitVec.ofNat 32 (i 0).val
  let v93 : Index := Scalar.indexCast arg0
  let c0_26 : Index := 0#32
  ![v93.toNat, 0]
def k0_cond1 (i : grid0.Coords) : BitVec 1 :=
  let arg0 : BitVec 32 := BitVec.ofNat 32 (i 0).val
  let c15_i32 : BitVec 32 := 15#32
  let v97 : BitVec 1 := Scalar.cmpi .eq arg0 c15_i32
  let v98 : BitVec 32 := Scalar.extui v97
  let c0_i32_27 : BitVec 32 := 0#32
  let v99 : BitVec 1 := Scalar.cmpi .ne v98 c0_i32_27
  v99

def k0_dev1 (d100 : Dev nD) : Nat :=
  let c0_i32_34 : BitVec 32 := 0#32
  let c1_i32_31 : BitVec 32 := 1#32
  let v100 : BitVec 32 := Dev.word d100
  let c8_i32 : BitVec 32 := 8#32
  let v101 : BitVec 32 := Scalar.divsi v100 c8_i32
  let c2_i32 : BitVec 32 := 2#32
  let v102 : BitVec 32 := Scalar.remsi v101 c2_i32
  let v109 : BitVec 32 := Scalar.subi c1_i32_31 v102
  let c8_i32_33 : BitVec 32 := 8#32
  let v111 : BitVec 32 := Scalar.muli v109 c8_i32_33
  let v112 : BitVec 32 := Scalar.addi c0_i32_34 v111
  let v103 : BitVec 32 := Dev.word d100
  let c4_i32 : BitVec 32 := 4#32
  let v104 : BitVec 32 := Scalar.divsi v103 c4_i32
  let c2_i32_28 : BitVec 32 := 2#32
  let v105 : BitVec 32 := Scalar.remsi v104 c2_i32_28
  let c4_i32_35 : BitVec 32 := 4#32
  let v113 : BitVec 32 := Scalar.muli v105 c4_i32_35
  let v114 : BitVec 32 := Scalar.addi v112 v113
  let v106 : BitVec 32 := Dev.word d100
  let c1_i32_30 : BitVec 32 := 1#32
  let v107 : BitVec 32 := Scalar.divsi v106 c1_i32_30
  let c4_i32_29 : BitVec 32 := 4#32
  let v108 : BitVec 32 := Scalar.remsi v107 c4_i32_29
  let c1_i32_36 : BitVec 32 := 1#32
  let v115 : BitVec 32 := Scalar.muli v108 c1_i32_36
  let v116 : BitVec 32 := Scalar.addi v114 v115
  v116.toNat
def k0_dev2 (d100 : Dev nD) : Nat :=
  let c0_i32_41 : BitVec 32 := 0#32
  let c1_i32_31 : BitVec 32 := 1#32
  let v100 : BitVec 32 := Dev.word d100
  let c8_i32 : BitVec 32 := 8#32
  let v101 : BitVec 32 := Scalar.divsi v100 c8_i32
  let c2_i32 : BitVec 32 := 2#32
  let v102 : BitVec 32 := Scalar.remsi v101 c2_i32
  let v109 : BitVec 32 := Scalar.subi c1_i32_31 v102
  let c8_i32_40 : BitVec 32 := 8#32
  let v117 : BitVec 32 := Scalar.muli v109 c8_i32_40
  let v118 : BitVec 32 := Scalar.addi c0_i32_41 v117
  let v103 : BitVec 32 := Dev.word d100
  let c4_i32 : BitVec 32 := 4#32
  let v104 : BitVec 32 := Scalar.divsi v103 c4_i32
  let c2_i32_28 : BitVec 32 := 2#32
  let v105 : BitVec 32 := Scalar.remsi v104 c2_i32_28
  let c4_i32_42 : BitVec 32 := 4#32
  let v119 : BitVec 32 := Scalar.muli v105 c4_i32_42
  let v120 : BitVec 32 := Scalar.addi v118 v119
  let v106 : BitVec 32 := Dev.word d100
  let c1_i32_30 : BitVec 32 := 1#32
  let v107 : BitVec 32 := Scalar.divsi v106 c1_i32_30
  let c4_i32_29 : BitVec 32 := 4#32
  let v108 : BitVec 32 := Scalar.remsi v107 c4_i32_29
  let c1_i32_43 : BitVec 32 := 1#32
  let v121 : BitVec 32 := Scalar.muli v108 c1_i32_43
  let v122 : BitVec 32 := Scalar.addi v120 v121
  v122.toNat
def k0_dev3 (d100 : Dev nD) : Nat :=
  let c0_i32_47 : BitVec 32 := 0#32
  let c1_i32_31 : BitVec 32 := 1#32
  let v100 : BitVec 32 := Dev.word d100
  let c8_i32 : BitVec 32 := 8#32
  let v101 : BitVec 32 := Scalar.divsi v100 c8_i32
  let c2_i32 : BitVec 32 := 2#32
  let v102 : BitVec 32 := Scalar.remsi v101 c2_i32
  let v109 : BitVec 32 := Scalar.subi c1_i32_31 v102
  let c8_i32_46 : BitVec 32 := 8#32
  let v127 : BitVec 32 := Scalar.muli v109 c8_i32_46
  let v128 : BitVec 32 := Scalar.addi c0_i32_47 v127
  let v103 : BitVec 32 := Dev.word d100
  let c4_i32 : BitVec 32 := 4#32
  let v104 : BitVec 32 := Scalar.divsi v103 c4_i32
  let c2_i32_28 : BitVec 32 := 2#32
  let v105 : BitVec 32 := Scalar.remsi v104 c2_i32_28
  let c4_i32_48 : BitVec 32 := 4#32
  let v129 : BitVec 32 := Scalar.muli v105 c4_i32_48
  let v130 : BitVec 32 := Scalar.addi v128 v129
  let v106 : BitVec 32 := Dev.word d100
  let c1_i32_30 : BitVec 32 := 1#32
  let v107 : BitVec 32 := Scalar.divsi v106 c1_i32_30
  let c4_i32_29 : BitVec 32 := 4#32
  let v108 : BitVec 32 := Scalar.remsi v107 c4_i32_29
  let c1_i32_49 : BitVec 32 := 1#32
  let v131 : BitVec 32 := Scalar.muli v108 c1_i32_49
  let v132 : BitVec 32 := Scalar.addi v130 v131
  v132.toNat
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1x1024x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S16x1x16x64 : Shape := ⟨4, ![16, 1, 16, 64]⟩
abbrev S16x2048x16x64 : Shape := ⟨4, ![16, 2048, 16, 64]⟩
abbrev S16x16x1x2048 : Shape := ⟨4, ![16, 16, 1, 2048]⟩
abbrev S_ : Shape := ⟨0, ![]⟩
abbrev S16x16x1 : Shape := ⟨3, ![16, 16, 1]⟩
abbrev S16x16x1x1 : Shape := ⟨4, ![16, 16, 1, 1]⟩
abbrev S16x16x64x1 : Shape := ⟨4, ![16, 16, 64, 1]⟩

abbrev nBuf : Space → Nat
  | .hbm => 20
  | .vmem => 0
  | .smem => 0
  | _ => 0

abbrev bufTy : (tb : Table) → Fin (tcTables nBuf tb) → BufTy
  | .hbm, ⟨0, _⟩ => ⟨S16x1x16x64, .f32⟩
  | .hbm, ⟨1, _⟩ => ⟨S16x2048x16x64, .f32⟩
  | .hbm, ⟨2, _⟩ => ⟨S16x2048x16x64, .f32⟩
  | .hbm, ⟨3, _⟩ => ⟨S16x16x1x2048, .f32⟩
  | .hbm, ⟨4, _⟩ => ⟨S_, .f32⟩
  | .hbm, ⟨5, _⟩ => ⟨S16x16x1x2048, .f32⟩
  | .hbm, ⟨6, _⟩ => ⟨S16x16x1x2048, .f32⟩
  | .hbm, ⟨7, _⟩ => ⟨S_, .f32⟩
  | .hbm, ⟨8, _⟩ => ⟨S16x16x1, .f32⟩
  | .hbm, ⟨9, _⟩ => ⟨S16x16x1x1, .f32⟩
  | .hbm, ⟨10, _⟩ => ⟨S16x16x1x2048, .f32⟩
  | .hbm, ⟨11, _⟩ => ⟨S16x16x1x2048, .f32⟩
  | .hbm, ⟨12, _⟩ => ⟨S16x16x1x2048, .f32⟩
  | .hbm, ⟨13, _⟩ => ⟨S_, .f32⟩
  | .hbm, ⟨14, _⟩ => ⟨S16x16x1, .f32⟩
  | .hbm, ⟨15, _⟩ => ⟨S16x16x1x1, .f32⟩
  | .hbm, ⟨16, _⟩ => ⟨S16x16x1x2048, .f32⟩
  | .hbm, ⟨17, _⟩ => ⟨S16x16x1x2048, .f32⟩
  | .hbm, ⟨18, _⟩ => ⟨S16x16x64x1, .f32⟩
  | .hbm, ⟨19, _⟩ => ⟨S16x1x16x64, .f32⟩
  | _, _ => ⟨S16x1x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.KernelIdeal.Protocol.lean ====
/-
  The exchange of partial softmax results between two devices.

  The sixteen devices form a 2 × 2 × 4 mesh; the keys are cut over its first axis, so device `c` holds one half of
  them and its `mate` (the device eight places further round) the other. Each device writes sixteen rows of running
  maxima and sums into one scratch buffer and sixteen rows of weighted values into another, row `b` at grid point `b`.
  At the last point it tells its mate that its two landing buffers are free, waits to be told the same, copies its two
  scratch buffers into the mate's landing buffers, and waits for all four copies it is part of.

  This file states that protocol: the five semaphores ("ports") of a device, what is written where, what each
  port's single payment hands over, what every device owes at the start, and the levels that make the one wait
  entered while still owing something safe.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Regions
public import Idealize.ShloMosaic.Lib.Pipeline.RegionTalk
public import Idealize.ShloMosaic.Lib.Pipeline.Kit
public import Idealize.ShloMosaic.Lib.Rounds
public import Idealize.ShloMosaic.Lib.StableHlo
public import Idealize.ShloMosaic.Lib.Tactic
public import Idealize.ShloMosaic.Lib.ValueIdxCore
public import Idealize.ShloMosaic.Harness.Basic

@[expose] public section

noncomputable section

namespace Cert.KernelIdealExchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)
open Idealize.ShloMosaic.Pipeline (Dat Cfg BodyObligation cellOf)

variable {F : FTy → Type} [FloatOps F]

/-- Ghost state: one copy of the rounds algebra for the staging pipeline, one for the exchange. -/
abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR
abbrev 𝒱₀ : Variants := Variants.none

variable (m : (ℓ : Loc nD τ sig) → Buf (Elt F) ℓ) (ρ : Dev nD → PrngReg)

/-! ## The mate of a device -/

/-- The device holding the other half of the keys of the same group. -/
def mate (c : Dev nD) : Dev nD := ⟨(c.val + 8) % 16, Nat.mod_lt _ (by decide)⟩

/-- The mate of the mate is the device itself. -/
theorem mate_mate (c : Dev nD) : mate (mate c) = c := by revert c; decide

/-- Swapping every device with its mate, as a permutation. -/
def mates : Dev nD ≃ Dev nD := ⟨mate, mate, mate_mate, mate_mate⟩

/-- The kernel's device arithmetic names the mate, at the signal … -/
theorem signal_target (c : Dev nD) {h : k0_dev1 c < nD} : (⟨k0_dev1 c, h⟩ : Dev nD) = mate c :=
  Fin.ext ((k0_dev1_eq c).trans (by clear h; revert c; decide))
/-- … at the first copy … -/
theorem copy0_target (c : Dev nD) {h : k0_dev2 c < nD} : (⟨k0_dev2 c, h⟩ : Dev nD) = mate c :=
  Fin.ext ((k0_dev2_eq c).trans (by clear h; revert c; decide))
/-- … and at the second. -/
theorem copy1_target (c : Dev nD) {h : k0_dev3 c < nD} : (⟨k0_dev3 c, h⟩ : Dev nD) = mate c :=
  Fin.ext ((k0_dev3_eq c).trans (by clear h; revert c; decide))

/-! ## The ports -/

/-- A device's five semaphores: 0 tells it that its mate's landing buffers are free; 1 and 2 that its own copies have
    left; 3 and 4 that its mate's copies have landed. -/
def psem : Fin 5 → SemLoc sig
  | 0 => .reg barrier0
  | 1 => .dma 7
  | 2 => .dma 8
  | 3 => .dma 9
  | 4 => .dma 10

/-- Port `p` of device `c`. -/
abbrev cell (p : Fin 5) (c : Dev nD) : GSem nD τ sig := ((c : Thread nD τ), psem p)

/-- The port a semaphore is, if it is one. -/
def portOf : SemLoc sig → Option (Fin 5)
  | .reg _ => some 0
  | .dma s => if h : 7 ≤ s.val then some ⟨s.val - 6, by have h₁ : s.val < 11 := s.isLt; omega⟩ else none

theorem portOf_psem (p : Fin 5) : portOf (psem p) = some p := by revert p; decide
theorem psem_inj : Function.Injective psem := fun a b h => by
  have := congrArg portOf h; rw [portOf_psem, portOf_psem] at this; exact Option.some.inj this

/-- The four ports whose semaphores belong to the kernel. -/
abbrev osem (k : Fin 4) : SemLoc sig := psem k.succ

/-! ## What is written -/

/-- The grid point that writes row `n`. -/
def pointOf (n : ℕ) : Fin cfg0.N := ⟨n % 16, by have : cfg0.N = 16 := N_0; rw [this]; exact Nat.mod_lt _ (by decide)⟩

/-- The query block, key block and value block of a point. -/
def qBlk (c : Dev nD) (t : Fin cfg0.N) : Vec F S1x1024x1 .f32 := iblk m c 0 t
def kBlk (c : Dev nD) (t : Fin cfg0.N) : Vec F S1x1024x1024 .f32 := iblk m c 1 t
def vBlk (c : Dev nD) (t : Fin cfg0.N) : Vec F S1x1024x1024 .f32 := iblk m c 2 t

/-- A point's unscaled scores. -/
def scores (c : Dev nD) (t : Fin cfg0.N) : FVec F S1024x16 .f32 := k0_pay12 (qBlk m c t) (kBlk m c t)
/-- The row of maxima a point writes. -/
def mRow (c : Dev nD) (t : Fin cfg0.N) : FVec F S1x16 .f32 := k0_pay19 (scores m c t) k0_pay13
/-- The row of sums of exponentials a point writes. -/
def lRow (c : Dev nD) (t : Fin cfg0.N) : FVec F S1x16 .f32 := k0_pay1 (k0_pay17 (scores m c t) k0_pay13)
/-- The row of weighted values a point writes. -/
def oRow (c : Dev nD) (t : Fin cfg0.N) : FVec F S1x1024 .f32 :=
  k0_pay2 (k0_pay18 (k0_pay11 (vBlk m c t)) (scores m c t) k0_pay13)

/-- The first scratch buffer when every row is written: maxima in rows 0–15, sums in rows 16–31. -/
def mlFin (c : Dev nD) : FVec F S32x16 .f32 := fun i =>
  if (i 0).val < 16 then mRow m c (pointOf (i 0).val) (ix2 0 (i 1)) else lRow m c (pointOf (i 0).val) (ix2 0 (i 1))
/-- The second scratch buffer when every row is written. -/
def oFin (c : Dev nD) : FVec F S16x1024 .f32 := fun i => oRow m c (pointOf (i 0).val) (ix2 0 (i 1))

/-- All maxima of a device, and all its sums. -/
def mAll (c : Dev nD) : FVec F S16x16 .f32 := fun i => mRow m c (pointOf (i 0).val) (ix2 0 (i 1))
def lAll (c : Dev nD) : FVec F S16x16 .f32 := fun i => lRow m c (pointOf (i 0).val) (ix2 0 (i 1))

/-- What a device puts out: its own partial results merged with its mate's. -/
def merged (c : Dev nD) : FVec F S16x1x1024 .f32 :=
  k0_pay3 (k0_pay8 (mAll m c) (lAll m c) (mAll m (mate c)) (lAll m (mate c)))
    (k0_pay9 (mAll m c) (mAll m (mate c)) (oFin m c)) (k0_pay10 (mAll m c) (mAll m (mate c)) (oFin m (mate c)))

/-- The first scratch buffer with the rows of the points before `n` written. -/
def MlDone (c : Dev nD) (n : ℕ) (f : FVec F S32x16 .f32) : Prop := ∀ i : S32x16.Idx, (i 0).val % 16 < n → f i = mlFin m c i
/-- The second scratch buffer with the rows of the points before `n` written. -/
def ODone (c : Dev nD) (n : ℕ) (f : FVec F S16x1024 .f32) : Prop := ∀ i : S16x1024.Idx, (i 0).val < n → f i = oFin m c i

theorem mlDone_last {c : Dev nD} {f : FVec F S32x16 .f32} (h : MlDone m c 16 f) : f = mlFin m c :=
  funext fun i => h i (Nat.mod_lt _ (by decide))
theorem oDone_last {c : Dev nD} {f : FVec F S16x1024 .f32} (h : ODone m c 16 f) : f = oFin m c :=
  funext fun i => h i (i 0).isLt

/-! ## The buffers the exchange moves -/

abbrev mlS : Memref sig .tc .vmem S32x16 .f32 := Memref.whole cc0_scratch0
abbrev oS : Memref sig .tc .vmem S16x1024 .f32 := Memref.whole cc0_scratch1
abbrev mlR : Memref sig .tc .vmem S32x16 .f32 := Memref.whole cc0_scratch2
abbrev oR : Memref sig .tc .vmem S16x1024 .f32 := Memref.whole cc0_scratch3

/-- Buffer `b` of device `c`, whole, at contents `f`. -/
abbrev has (b : Ref sig .tc) (c : Dev nD) (f : Buf (Elt F) ((c : Thread nD τ).loc b)) : sProp 𝕄 :=
  ((c : Thread nD τ).loc b) ↦{fullShare} f
/-- Buffer `b` of device `c`, whole, at contents not named. -/
abbrev hasAny (b : Ref sig .tc) (c : Dev nD) : sProp 𝕄 := iprop(∃ f : Buf (Elt F) ((c : Thread nD τ).loc b), has b c f)

/-- The bytes of a copy of maxima and sums, and of one of weighted values. -/
abbrev nMl : ℕ := (mlR : Memref sig .tc .vmem S32x16 .f32).view.dmaCredit
abbrev nO : ℕ := (oR : Memref sig .tc .vmem S16x1024 .f32).view.dmaCredit
theorem nMl_pos : 0 < nMl := View.dmaCredit_pos _ (by decide)
theorem nO_pos : 0 < nO := View.dmaCredit_pos _ (by decide)

/-! ## The schedule: one payment into every port -/

/-- How much is paid into a port. -/
def amt : Fin 5 → ℕ
  | 0 => 1
  | 1 => nMl
  | 2 => nO
  | 3 => nMl
  | 4 => nO
theorem amt_pos (p : Fin 5) : 0 < amt p := by
  fin_cases p
  · exact Nat.one_pos
  · exact nMl_pos
  · exact nO_pos
  · exact nMl_pos
  · exact nO_pos

/-- What the payment into a port hands to device `c`: its mate's landing buffers (free to write); its own scratch
    buffers back; its landing buffers holding the mate's results. -/
def pay (c : Dev nD) : Fin 5 → sProp 𝕄
  | 0 => iprop(hasAny cc0_scratch2 (mate c) ∗ hasAny cc0_scratch3 (mate c) ∗ reached ER (cell 3 (mate c)) 0 ∗ reached ER (cell 4 (mate c)) 0)
  | 1 => has cc0_scratch0 c (mlFin m c)
  | 2 => has cc0_scratch1 c (oFin m c)
  | 3 => has cc0_scratch2 c (mlFin m (mate c))
  | 4 => has cc0_scratch3 c (oFin m (mate c))

/-- The schedule: in round 0 one payment into each of the sixty-four ports that are a TensorCore's; nothing later. -/
def sched : Rounds.Schedule (GSem nD τ sig) Unit 𝕄 where
  duties g r := if r = 0 ∧ g.1.2 = .tc ∧ (portOf g.2).isSome then {()} else ∅
  unitless _ := False
  amount g _ _ := match portOf g.2 with
    | some p => amt p
    | none => 1
  payload g _ _ := match portOf g.2 with
    | some p => pay m g.1.1 p
    | none => iprop(emp)
  amount_pos g _ _ _ := by
    cases portOf g.2 with
    | none => exact Nat.one_pos
    | some p => exact amt_pos p

instance pay_storable (c : Dev nD) (p : Fin 5) : BI.Storable (upEmb : UEmb _ 𝕄) (pay m c p) := by
  match p with
  | 0 => unfold pay; infer_instance
  | 1 => unfold pay; infer_instance
  | 2 => unfold pay; infer_instance
  | 3 => unfold pay; infer_instance
  | 4 => unfold pay; infer_instance

instance sched_payload_storable (g : GSem nD τ sig) (r : ℕ) (d : Unit) :
    BI.Storable (upEmb : UEmb _ 𝕄) ((sched (F := F) m).payload g r d) := by
  dsimp only [sched]
  cases portOf g.2 with
  | none => dsimp only; infer_instance
  | some p => dsimp only; infer_instance

section Sched

variable (p : Fin 5) (c : Dev nD)

theorem duties_eq : (sched (F := F) m).duties (cell p c) 0 = {()} := by
  dsimp only [sched]; exact if_pos ⟨rfl, rfl, by rw [portOf_psem]; rfl⟩
theorem duty_mem : () ∈ (sched (F := F) m).duties (cell p c) 0 := by rw [duties_eq]; exact Finset.mem_singleton_self _
theorem duties_done (g : GSem nD τ sig) : ∀ r, 1 ≤ r → (sched (F := F) m).duties g r = ∅ :=
  fun r hr => by dsimp only [sched]; exact if_neg (fun h => by omega)
theorem amount_eq (u : Unit) : (sched (F := F) m).amount (cell p c) 0 u = amt p := by dsimp only [sched]; rw [portOf_psem]
theorem payload_eq (u : Unit) : (sched (F := F) m).payload (cell p c) 0 u = pay m c p := by dsimp only [sched]; rw [portOf_psem]
theorem expect_eq : (sched (F := F) m).expect (cell p c) 0 = amt p := by
  unfold Schedule.expect Schedule.amountOf; rw [duties_eq, Finset.sum_singleton, amount_eq]
theorem rest_eq : bigSep ((sched (F := F) m).duties (cell p c) 0 \ ∅) (fun u => (sched (F := F) m).payload (cell p c) 0 u) = pay m c p := by
  rw [Finset.sdiff_empty, duties_eq, bigSep_singleton, payload_eq]

end Sched

/-! ## What a device owes at launch; the levels -/

/-- A device owes its mate the two landings and the signal. -/
def due (c : Dev nD) : CellTallies nD τ sig Unit :=
  tallyAt (cell 4 (mate c)) () nO + tallyAt (cell 3 (mate c)) () nMl + tallyAt (cell 0 (mate c)) () 1

def L (g : GSem nD τ sig) : Finset Unit := if g.1.2 = .tc then {()} else ∅

/-- Landings lie above signals, signals above everything else. -/
def rank : Option (Fin 5) → ℕ
  | some 0 => 1
  | some 3 => 2
  | some 4 => 2
  | _ => 0
def lv (g : GSem nD τ sig) (_ : Unit) : ℕ := rank (portOf g.2)

theorem L_of_ne (g : GSem nD τ sig) (h : g.1.2 ≠ .tc) : L g = ∅ := if_neg h
theorem L_tc (c : Dev nD) (sm : SemLoc sig) : L ((c : Thread nD τ), sm) = {()} := if_pos rfl
theorem lv_cell (p : Fin 5) (c : Dev nD) (u : Unit) : lv (cell p c) u = rank (some p) := by unfold lv; rw [portOf_psem]

/-- A tally at one cell is positive only there. -/
theorem at_of_pos {g g' : GSem nD τ sig} {n : ℕ} {u : Unit} (h : 0 < tallyAt g' () n g u) : g = g' := by
  rw [tallyAt_apply] at h
  by_contra hne
  rw [if_neg (fun h' => hne h'.1)] at h
  exact absurd h (Nat.lt_irrefl 0)

/-- Whatever a device owes, it owes at one of three ports of its mate. -/
theorem due_at {c : Dev nD} {g : GSem nD τ sig} {u : Unit} (h : 0 < due c g u) :
    g = cell 4 (mate c) ∨ g = cell 3 (mate c) ∨ g = cell 0 (mate c) := by
  unfold due at h
  rw [Pi.add_apply, Finsupp.add_apply, Pi.add_apply, Finsupp.add_apply] at h
  rcases Nat.add_pos_iff_pos_or_pos.mp h with h | h
  · rcases Nat.add_pos_iff_pos_or_pos.mp h with h | h
    · exact .inl (at_of_pos h)
    · exact .inr (.inl (at_of_pos h))
  · exact .inr (.inr (at_of_pos h))

/-- The wait for the mate's signal is safe while the two landings are still owed: they lie above it. -/
theorem mayWait_signal (c : Dev nD) :
    (levAts L lv : sProp 𝕄)
      ⊢ MayWait (c : Thread nD τ) (psem 0) () (tallyAt (cell 4 (mate c)) () nO + tallyAt (cell 3 (mate c)) () nMl) := by
  have hpos : ∀ (g : GSem nD τ sig) (u : Unit),
      0 < (tallyAt (cell 4 (mate c)) () nO + tallyAt (cell 3 (mate c)) () nMl : CellTallies nD τ sig Unit) g u →
      g = cell 4 (mate c) ∨ g = cell 3 (mate c) := by
    intro g u h
    rw [Pi.add_apply, Finsupp.add_apply] at h
    rcases Nat.add_pos_iff_pos_or_pos.mp h with h | h
    · exact .inl (at_of_pos h)
    · exact .inr (at_of_pos h)
  refine MayOwe.of_cut (L := L) (lev := lv) 1 (fun q hq => ?_) (fun g u hg => ?_) (fun q hq => ?_) (fun g u hg => ?_)
  · rw [Finset.mem_singleton.mp hq, L_tc]; exact Finset.mem_singleton_self _
  · rcases hpos g u hg with rfl | rfl <;> (rw [L_tc]; exact Finset.mem_singleton_self _)
  · rw [Finset.mem_singleton.mp hq]; exact le_of_eq (lv_cell 0 c ())
  · rcases hpos g u hg with rfl | rfl <;> (rw [lv_cell]; decide)

/-! ## The records and the tokens -/

def sigEmb : Dev nD ↪ GSem nD τ sig := ⟨fun c => cell 0 c, fun _ _ h => congrArg (fun g : GSem nD τ sig => g.1.1) h⟩
def copyEmb : Dev nD × Fin 4 ↪ GSem nD τ sig :=
  ⟨fun ck => ((ck.1 : Thread nD τ), osem ck.2), fun _ _ h =>
    Prod.ext (congrArg (fun g : GSem nD τ sig => g.1.1) h) (Fin.succ_injective _ (psem_inj (congrArg Prod.snd h)))⟩

/-- The signal ports of all devices, and their copy ports. -/
abbrev sigCells : Finset (GSem nD τ sig) := Finset.univ.map sigEmb
abbrev copyCells : Finset (GSem nD τ sig) := Finset.univ.map copyEmb

theorem cell_mem (p : Fin 5) (c : Dev nD) : cell p c ∈ (sigCells ∪ copyCells : Finset (GSem nD τ sig)) := by
  refine Fin.cases (motive := fun p => cell p c ∈ (sigCells ∪ copyCells : Finset (GSem nD τ sig))) ?_ (fun k => ?_) p
  · exact Finset.mem_union_left _ (Finset.mem_map_of_mem sigEmb (Finset.mem_univ c))
  · exact Finset.mem_union_right _ (Finset.mem_map_of_mem copyEmb (Finset.mem_univ (c, k)))

/-- What every device may consult: the invariant of every port, and that every signal port is at round 0. -/
def records (κ : GSem nD τ sig → ℕ) : sProp 𝕄 :=
  iprop((bigSep (sigCells ∪ copyCells) fun g => cellInv ER (sched m) (κ g) g) ∗ bigSep sigCells fun g => reached ER g 0)

instance records_persistent (κ : GSem nD τ sig → ℕ) : BI.Persistent (records m κ) := by unfold records; infer_instance

theorem inv_of (κ : GSem nD τ sig → ℕ) (p : Fin 5) (c : Dev nD) : records m κ ⊢ cellInv ER (sched m) (κ (cell p c)) (cell p c) := by
  have h : (bigSep (sigCells ∪ copyCells) fun g => (cellInv ER (sched m) (κ g) g : sProp 𝕄)) ⊢ cellInv ER (sched m) (κ (cell p c)) (cell p c) :=
    bigSep_elim (cell_mem p c)
  unfold records
  iintro ⟨#HI, -⟩
  iapply h; iexact HI

theorem start_of (κ : GSem nD τ sig → ℕ) (c : Dev nD) : records m κ ⊢ reached ER (cell 0 c) 0 := by
  have h : (bigSep sigCells fun g => (reached ER g 0 : sProp 𝕄)) ⊢ reached ER (cell 0 c) 0 :=
    bigSep_elim (Finset.mem_map_of_mem sigEmb (Finset.mem_univ c))
  unfold records
  iintro ⟨-, #HR⟩
  iapply h; iexact HR

/-- The tokens of the five payments device `c` makes. -/
def payer (c : Dev nD) : sProp 𝕄 :=
  iprop(dutyTok ER (cell 0 (mate c)) 0 () ∗ dutyTok ER (cell 1 c) 0 () ∗ dutyTok ER (cell 2 c) 0 ()
    ∗ dutyTok ER (cell 3 (mate c)) 0 () ∗ dutyTok ER (cell 4 (mate c)) 0 ())

/-- The rights to open the four copy ports. -/
def openers (c : Dev nD) : sProp 𝕄 :=
  iprop(openTok ER (cell 1 c) ∗ openTok ER (cell 2 c) ∗ openTok ER (cell 3 c) ∗ openTok ER (cell 4 c))

/-- What device `c` alone holds from launch. -/
def holding (c : Dev nD) : sProp 𝕄 := iprop(atPos ER (cell 0 c) 0 ∅ 0 ∗ openers c ∗ payer c)

/-- The credit for the three payments others make to device `c`. -/
def credits (c : Dev nD) : sProp 𝕄 :=
  iprop(cred (tallyAt (cell 0 c) () 1) ∗ cred (tallyAt (cell 3 c) () nMl) ∗ cred (tallyAt (cell 4 c) () nO))

/-- The positions of device `c` on its five ports, all at round 0, the copy ports open. -/
def positions (c : Dev nD) : sProp 𝕄 :=
  iprop(atPos ER (cell 0 c) 0 ∅ 0 ∗ atPos ER (cell 1 c) 0 ∅ 0 ∗ atPos ER (cell 2 c) 0 ∅ 0 ∗ atPos ER (cell 3 c) 0 ∅ 0 ∗ atPos ER (cell 4 c) 0 ∅ 0)
def ready (c : Dev nD) : sProp 𝕄 :=
  iprop(reached ER (cell 1 c) 0 ∗ reached ER (cell 2 c) 0 ∗ reached ER (cell 3 c) 0 ∗ reached ER (cell 4 c) 0)

instance ready_persistent (c : Dev nD) : BI.Persistent (ready (F := F) c) := by unfold ready; infer_instance

/-- Everything the exchange needs of device `c` besides its buffers. -/
def armed (c : Dev nD) : sProp 𝕄 :=
  iprop((∃ κ, records m κ ∗ ready c ∗ positions c ∗ payer c) ∗ credits c ∗ levAts L lv)

/-- The five counters at zero, when the exchange is over. -/
def counters (c : Dev nD) : sProp 𝕄 :=
  iprop(semVal (cell 1 c) 0 ∗ semVal (cell 2 c) 0 ∗ semVal (cell 3 c) 0 ∗ semVal (cell 4 c) 0)

/-- A port that has had its payment gives its counter back at zero. -/
theorem close (κ : ℕ) (g : GSem nD τ sig) :
    iprop(cellInv ER (sched m) κ g ∗ atPos ER g (0 + 1) ∅ 0) ⊢ (|={Set.univ}=> semVal g 0 : sProp 𝕄) :=
  Rounds.cell_close ER (sched m) (Set.mem_univ κ) id (duties_done m g)

end Cert.KernelIdealExchange

end
-- ==== Proof.KernelIdeal.Rows.lean ====
/-
  The first part of the kernel's body, common to all grid points: it reads the point's query, key and value blocks and
  writes one row of maxima, one of sums and one of weighted values into the two scratch buffers.
-/
module

public import proofs.«01_k».proof.Proof.KernelIdeal.Protocol
public import Idealize.ShloMosaic.Lib.Writes

@[expose] public section

noncomputable section

namespace Cert.KernelIdealExchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Reading and writing whole buffers and rows -/

/-- A load of a whole shape from offset zero reads what the view reads. -/
theorem readAt_zero {κ : Kind} {sp : Space} {s : Shape} {e : EltTy} (v : View sig κ sp s e) {off : Fin s.rank → ℕ}
    (h : off = fun _ => 0) (inb : ∀ a, off a + s.size a ≤ s.size a) (f : v.ty.Contents (Elt F)) :
    v.readAt (Elt F) (Rect.unit off s.size inb).toLoadRect f = v.read (Elt F) f := by
  subst h; funext x
  show v.read (Elt F) f ((Rect.whole s).emb x) = _
  rw [Rect.emb_whole_apply]

/-- Reading back a store of a whole shape at offset zero reads the stored value. -/
theorem read_write_zero {κ : Kind} {sp : Space} {s : Shape} {e : EltTy} (v : View sig κ sp s e) {off : Fin s.rank → ℕ}
    (h : off = fun _ => 0) (inb : ∀ a, off a + s.size a ≤ s.size a) (f : v.ty.Contents (Elt F)) (w : s.Idx → Elt F e) :
    v.read (Elt F) ((v.slice (Rect.unit off s.size inb)).write (Elt F) f w Finset.univ) = w := by
  subst h; funext x
  have hx := View.read_slice_write_emb (v := v) (Rect.whole s) f w (M := Finset.univ) (x := x) (Finset.mem_univ _)
  rw [Rect.emb_whole_apply] at hx
  exact hx

theorem zero2 : (![0, 0] : Fin 2 → ℕ) = fun _ => 0 := funext fun a => by fin_cases a <;> rfl
theorem zero3 : (![0, 0, 0] : Fin 3 → ℕ) = fun _ => 0 := funext fun a => by fin_cases a <;> rfl

/-- A row of sixteen stored into a 32 × 16 buffer: that row is the stored one, the others stay. -/
theorem write_ml (f : FVec F S32x16 .f32) {off : Fin 2 → ℕ} {n : ℕ} (h : off = ![n, 0])
    (inb : ∀ a, off a + S1x16.size a ≤ S32x16.size a) (w : FVec F S1x16 .f32) (i : S32x16.Idx) :
    ((mlS : Memref sig .tc .vmem S32x16 .f32).access (Rect.unit (s := S32x16) off S1x16.size inb)).write (Elt F) f w Finset.univ i
      = if (i 0).val = n then w (ix2 0 (i 1)) else f i := by
  subst h
  split
  · next hi =>
    have hx := View.read_writes_cons_hit_of_coords (Val := Elt F) (View.whole cc0_scratch0) f (Rect.unit (s := S32x16) ![n, 0] S1x16.size inb) w []
      (ix2 0 (i 1)) i (fun a => by
        fin_cases a
        · show (i 0).val = n + 1 * 0; omega
        · show (i 1).val = 0 + 1 * (i 1).val; omega)
    rw [View.read_whole] at hx
    exact hx
  · next hi =>
    have hx := View.read_writes_cons_miss_of_axis (Val := Elt F) (View.whole cc0_scratch0) f ⟨Rect.unit (s := S32x16) ![n, 0] S1x16.size inb, w⟩ [] i 0 n 1
      rfl rfl rfl (by omega)
    rw [View.read_whole, View.read_whole] at hx
    exact hx

/-- The same for a row of 1024 stored into a 16 × 1024 buffer. -/
theorem write_o (f : FVec F S16x1024 .f32) {off : Fin 2 → ℕ} {n : ℕ} (h : off = ![n, 0])
    (inb : ∀ a, off a + S1x1024.size a ≤ S16x1024.size a) (w : FVec F S1x1024 .f32) (i : S16x1024.Idx) :
    ((oS : Memref sig .tc .vmem S16x1024 .f32).access (Rect.unit (s := S16x1024) off S1x1024.size inb)).write (Elt F) f w Finset.univ i
      = if (i 0).val = n then w (ix2 0 (i 1)) else f i := by
  subst h
  split
  · next hi =>
    have hx := View.read_writes_cons_hit_of_coords (Val := Elt F) (View.whole cc0_scratch1) f (Rect.unit (s := S16x1024) ![n, 0] S1x1024.size inb) w []
      (ix2 0 (i 1)) i (fun a => by
        fin_cases a
        · show (i 0).val = n + 1 * 0; omega
        · show (i 1).val = 0 + 1 * (i 1).val; omega)
    rw [View.read_whole] at hx
    exact hx
  · next hi =>
    have hx := View.read_writes_cons_miss_of_axis (Val := Elt F) (View.whole cc0_scratch1) f ⟨Rect.unit (s := S16x1024) ![n, 0] S1x1024.size inb, w⟩ [] i 0 n 1
      rfl rfl rfl (by omega)
    rw [View.read_whole, View.read_whole] at hx
    exact hx

/-- The grid coordinate of a point is the point. -/
theorem coord_eq (t : Fin cfg0.N) : (grid0.coords t 0).val = t.val := by
  rcases fin_N0 t with rfl | rfl | rfl | rfl | rfl | rfl | rfl | rfl | rfl | rfl | rfl | rfl | rfl | rfl | rfl | rfl <;> rfl

theorem t_lt (t : Fin cfg0.N) : t.val < 16 := lt_of_lt_of_eq t.isLt N_0

theorem pointOf_val (t : Fin cfg0.N) : pointOf t.val = t := Fin.ext (Nat.mod_eq_of_lt (t_lt t))
theorem pointOf_val16 (t : Fin cfg0.N) : pointOf (t.val + 16) = t :=
  Fin.ext (by show (t.val + 16) % 16 = t.val; have := t_lt t; omega)

/-- The last point is the one whose branch is taken. -/
theorem branch_iff (t : Fin cfg0.N) : k0_cond1 (grid0.coords t) = 1#1 ↔ t.val = 15 := by
  rcases fin_N0 t with rfl | rfl | rfl | rfl | rfl | rfl | rfl | rfl | rfl | rfl | rfl | rfl | rfl | rfl | rfl | rfl <;> decide

/-- Writing a point's rows of maxima and sums takes the first scratch buffer one point further. -/
theorem mlDone_step {c : Dev nD} {t : Fin cfg0.N} {f : FVec F S32x16 .f32} (h : MlDone m c t.val f) :
    MlDone m c (t.val + 1)
      (((mlS : Memref sig .tc .vmem S32x16 .f32).access (Rect.unit (s := S32x16) (k0_off2 (grid0.coords t)) S1x16.size (k0_off2_inb (grid0.coords t)))).write (Elt F)
        (((mlS : Memref sig .tc .vmem S32x16 .f32).access (Rect.unit (s := S32x16) (k0_off1 (grid0.coords t)) S1x16.size (k0_off1_inb (grid0.coords t)))).write (Elt F)
          f (mRow m c t) Finset.univ) (lRow m c t) Finset.univ) := by
  intro i hi
  rw [write_ml _ ((k0_off2_eq _).trans (by rw [coord_eq])), write_ml _ ((k0_off1_eq _).trans (by rw [coord_eq]))]
  have hlt := t_lt t
  have hi0 : (i 0).val < 32 := (i 0).isLt
  split
  · next h1 =>
    unfold mlFin
    rw [if_neg (by omega), h1, pointOf_val16]
  · next h1 =>
    split
    · next h2 =>
      unfold mlFin
      rw [if_pos (by omega), h2, pointOf_val]
    · next h2 => exact h i (by omega)

/-- Writing a point's row of weighted values takes the second scratch buffer one point further. -/
theorem oDone_step {c : Dev nD} {t : Fin cfg0.N} {f : FVec F S16x1024 .f32} (h : ODone m c t.val f) :
    ODone m c (t.val + 1)
      (((oS : Memref sig .tc .vmem S16x1024 .f32).access (Rect.unit (s := S16x1024) (k0_off3 (grid0.coords t)) S1x1024.size (k0_off3_inb (grid0.coords t)))).write (Elt F)
        f (oRow m c t) Finset.univ) := by
  intro i hi
  rw [write_o _ ((k0_off3_eq _).trans (by rw [coord_eq]))]
  split
  · next h1 => unfold oFin; rw [h1, pointOf_val]
  · next h1 => exact h i (by omega)

/-! ## The body up to its branch -/

section Body

variable (t : Fin cfg0.N)
  (M1 : Memref sig .tc .vmem S1x1024x1 .f32) (h1 : M1.IsWhole) (M2 : Memref sig .tc .vmem S1x1024x1024 .f32) (h2 : M2.IsWhole)
  (M3 : Memref sig .tc .vmem S1x1024x1024 .f32) (h3 : M3.IsWhole) (M4 : Memref sig .tc .vmem S16x1x1024 .f32) (h4 : M4.IsWhole)

/-- The kernel's body at point `t`, its blocks staged in `M1` … `M4`. -/
abbrev bodyOn : Prog (TpuEff nD τ sig (Elt F) Λ₀ .tc) PUnit :=
  cc0_body (grid0.coords t) M1 h1 M2 h2 M3 h3 M4 h4 (Memref.whole cc0_scratch0) (Memref.isWhole_whole _) (Memref.whole cc0_scratch1) (Memref.isWhole_whole _)
    (Memref.whole cc0_scratch2) (Memref.isWhole_whole _) (Memref.whole cc0_scratch3) (Memref.isWhole_whole _) cc0_scratch4 cc0_scratch5

/-- The three statements that exchange the results: signal and first copy; second copy and the waits; the loads. -/
abbrev ex1 (hc : k0_cond1 (grid0.coords t) = 1#1) :=
  k0_part1 (F := F) (grid0.coords t) M1 h1 M2 h2 M3 h3 M4 h4 (Memref.whole cc0_scratch0) (Memref.isWhole_whole _) (Memref.whole cc0_scratch1) (Memref.isWhole_whole _)
    (Memref.whole cc0_scratch2) (Memref.isWhole_whole _) (Memref.whole cc0_scratch3) (Memref.isWhole_whole _) cc0_scratch4 cc0_scratch5 hc
abbrev ex2 (hc : k0_cond1 (grid0.coords t) = 1#1) :=
  k0_part2 (F := F) (grid0.coords t) M1 h1 M2 h2 M3 h3 M4 h4 (Memref.whole cc0_scratch0) (Memref.isWhole_whole _) (Memref.whole cc0_scratch1) (Memref.isWhole_whole _)
    (Memref.whole cc0_scratch2) (Memref.isWhole_whole _) (Memref.whole cc0_scratch3) (Memref.isWhole_whole _) cc0_scratch4 cc0_scratch5 hc
abbrev ex3 :=
  k0_part3 (F := F) (grid0.coords t) M1 h1 M2 h2 M3 h3 M4 h4 (Memref.whole cc0_scratch0) (Memref.isWhole_whole _) (Memref.whole cc0_scratch1) (Memref.isWhole_whole _)
    (Memref.whole cc0_scratch2) (Memref.isWhole_whole _) (Memref.whole cc0_scratch3) (Memref.isWhole_whole _) cc0_scratch4 cc0_scratch5

/-- What the last point does after its rows are written. -/
def exchange (hc : k0_cond1 (grid0.coords t) = 1#1) : Prog (TpuEff nD τ sig (Elt F) Λ₀ .tc) PUnit := do
  let ⟨d, a, b, e, g⟩ ← ex1 t M1 h1 M2 h2 M3 h3 M4 h4 hc
  let ⟨x, y, z⟩ ← ex2 t M1 h1 M2 h2 M3 h3 M4 h4 hc d a b e g
  let ⟨den, ol, op⟩ ← ex3 t M1 h1 M2 h2 M3 h3 M4 h4 x y z
  let _ : Vec F S16x1x1024 .f32 ← Prog.lift (.load M4 (Rect.unit (s := S16x1x1024) ![0, 0, 0] S16x1x1024.size inb_S16x1x1024_S16x1x1024_0_0_0).toLoadRect (View.loadsAt_vmem h_S16x1x1024))
  Prog.lift (.store M4 (Rect.unit (s := S16x1x1024) ![0, 0, 0] S16x1x1024.size inb_S16x1x1024_S16x1x1024_0_0_0) (k0_pay3 den ol op) Finset.univ (View.stores_vmem_bits_univ h_S16x1x1024 rfl) (.inl rfl))
  pure ⟨⟩

/-- The end of the body: the exchange, at the last point only. -/
def ending : Prog (TpuEff nD τ sig (Elt F) Λ₀ .tc) PUnit := do
  if hc : k0_cond1 (grid0.coords t) = 1#1 then exchange t M1 h1 M2 h2 M3 h3 M4 h4 hc else pure ⟨⟩
  pure ⟨⟩

/-- A staging buffer read through its memref, at the contents the pipeline put there. -/
abbrev staged {s : Shape} {e : EltTy} (c : Dev nD) (M : Memref sig .tc .vmem s e) (X : s.Idx → Elt F e) : sProp 𝕄 :=
  owns (c : Thread nD τ) M fullShare X

set_option maxHeartbeats 1600000 in
set_option maxRecDepth 65536 in
/-- Up to its branch the body reads the three blocks and writes the three rows. -/
theorem wp_rows (c : Dev nD) (f0 : FVec F S32x16 .f32) (f1 : FVec F S16x1024 .f32) (Kt : PUnit → sProp 𝕄) :
    iprop((staged c M1 (qBlk m c t) ∗ staged c M2 (kBlk m c t) ∗ staged c M3 (vBlk m c t) ∗ has cc0_scratch0 c f0 ∗ has cc0_scratch1 c f1)
        ∗ ((staged c M1 (qBlk m c t) ∗ staged c M2 (kBlk m c t) ∗ staged c M3 (vBlk m c t)
            ∗ has cc0_scratch0 c
                (((mlS : Memref sig .tc .vmem S32x16 .f32).access (Rect.unit (s := S32x16) (k0_off2 (grid0.coords t)) S1x16.size (k0_off2_inb (grid0.coords t)))).write (Elt F)
                  (((mlS : Memref sig .tc .vmem S32x16 .f32).access (Rect.unit (s := S32x16) (k0_off1 (grid0.coords t)) S1x16.size (k0_off1_inb (grid0.coords t)))).write (Elt F)
                    f0 (mRow m c t) Finset.univ) (lRow m c t) Finset.univ)
            ∗ has cc0_scratch1 c
                (((oS : Memref sig .tc .vmem S16x1024 .f32).access (Rect.unit (s := S16x1024) (k0_off3 (grid0.coords t)) S1x1024.size (k0_off3_inb (grid0.coords t)))).write (Elt F)
                  f1 (oRow m c t) Finset.univ))
          -∗ wp frame (wpE (defs₀ (F := F)) 𝒱₀ c none) Set.univ (ending t M1 h1 M2 h2 M3 h3 M4 h4) Kt))
      ⊢ wp frame (wpE (defs₀ (F := F)) 𝒱₀ c none) Set.univ (bodyOn t M1 h1 M2 h2 M3 h3 M4 h4) Kt := by
  rw [bodyOn, cc0_body_eq_skeleton]
  unfold cc0_body_skel
  rw [k0_part4_eq_skeleton, k0_part5_eq_skeleton]
  unfold k0_part4_skel k0_part5_skel
  simp only [Prog.lift, Prog.bind_op, Prog.bind_ret, Prog.pure_eq_ret]
  unfold staged owns
  iintro ⟨⟨⟨%g1, %e1, H1⟩, ⟨%g2, %e2, H2⟩, ⟨%g3, %e3, H3⟩, Hm, Ho⟩, Hk⟩
  iapply (wp_load 𝒱₀ (c : Thread nD τ) none Set.univ (m := M1) (View.setOn_subset_set _ _)) $$ H1; iintro H1
  rw [readAt_zero M1.view zero3, e1]
  iapply (wp_load 𝒱₀ (c : Thread nD τ) none Set.univ (m := M2) (View.setOn_subset_set _ _)) $$ H2; iintro H2
  rw [readAt_zero M2.view zero3, e2]
  iapply (wp_load 𝒱₀ (c : Thread nD τ) none Set.univ (m := M3) (View.setOn_subset_set _ _)) $$ H3; iintro H3
  rw [readAt_zero M3.view zero3, e3]
  iapply (wp_load 𝒱₀ (c : Thread nD τ) none Set.univ (m := mlS) (Finset.subset_univ _)) $$ Hm; iintro Hm
  iapply (wp_store 𝒱₀ (c : Thread nD τ) none Set.univ (m := mlS) (r := (Rect.unit (s := S32x16) (k0_off1 (grid0.coords t)) S1x16.size (k0_off1_inb (grid0.coords t)))) (Mk := Finset.univ) (Finset.subset_univ _)) $$ Hm; iintro Hm
  iapply (wp_load 𝒱₀ (c : Thread nD τ) none Set.univ (m := mlS) (Finset.subset_univ _)) $$ Hm; iintro Hm
  iapply (wp_store 𝒱₀ (c : Thread nD τ) none Set.univ (m := mlS) (r := (Rect.unit (s := S32x16) (k0_off2 (grid0.coords t)) S1x16.size (k0_off2_inb (grid0.coords t)))) (Mk := Finset.univ) (Finset.subset_univ _)) $$ Hm; iintro Hm
  iapply (wp_load 𝒱₀ (c : Thread nD τ) none Set.univ (m := oS) (Finset.subset_univ _)) $$ Ho; iintro Ho
  iapply (wp_store 𝒱₀ (c : Thread nD τ) none Set.univ (m := oS) (r := (Rect.unit (s := S16x1024) (k0_off3 (grid0.coords t)) S1x1024.size (k0_off3_inb (grid0.coords t)))) (Mk := Finset.univ) (Finset.subset_univ _)) $$ Ho; iintro Ho
  iapply Hk
  isplitl [H1]
  · iexists g1; isplitr
    · ipureintro; exact e1
    · iexact H1
  isplitl [H2]
  · iexists g2; isplitr
    · ipureintro; exact e2
    · iexact H2
  isplitl [H3]
  · iexists g3; isplitr
    · ipureintro; exact e3
    · iexact H3
  isplitl [Hm]; · iexact Hm
  iexact Ho

end Body

end Cert.KernelIdealExchange

end
-- ==== Proof.KernelIdeal.Exchange.lean ====
/-
  The end of the kernel's body at the last grid point: a device tells its mate that its landing buffers are free, waits
  to hear the same, copies both scratch buffers into the mate's landing buffers, waits for its own copies to leave and
  the mate's to land, and merges the two devices' results.
-/
module

public import proofs.«01_k».proof.Proof.KernelIdeal.Rows

@[expose] public section

noncomputable section

namespace Cert.KernelIdealExchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The semaphores the program names -/

theorem send0_sem : ((cc0_scratch4.slice (Rect.unit (s := S2) ![0] S1.size inb_S2_S1_0)).squeeze S_ squeezes_S1_S_).sem = (7 : DmaSem sig) := by decide
theorem send0_sem' : ((cc0_scratch4.slice (Rect.unit (s := S2) ![0] ![1] inb_S2_S1_0)).squeeze S_ squeezes_S1_S_).sem = (7 : DmaSem sig) := by decide
theorem send1_sem : ((cc0_scratch4.slice (Rect.unit (s := S2) ![1] S1.size inb_S2_S1_1)).squeeze S_ squeezes_S1_S_).sem = (8 : DmaSem sig) := by decide
theorem send1_sem' : ((cc0_scratch4.slice (Rect.unit (s := S2) ![1] ![1] inb_S2_S1_1)).squeeze S_ squeezes_S1_S_).sem = (8 : DmaSem sig) := by decide
theorem recv0_sem : ((cc0_scratch5.slice (Rect.unit (s := S2) ![0] S1.size inb_S2_S1_0)).squeeze S_ squeezes_S1_S_).sem = (9 : DmaSem sig) := by decide
theorem recv0_sem' : ((cc0_scratch5.slice (Rect.unit (s := S2) ![0] ![1] inb_S2_S1_0)).squeeze S_ squeezes_S1_S_).sem = (9 : DmaSem sig) := by decide
theorem recv1_sem : ((cc0_scratch5.slice (Rect.unit (s := S2) ![1] S1.size inb_S2_S1_1)).squeeze S_ squeezes_S1_S_).sem = (10 : DmaSem sig) := by decide
theorem recv1_sem' : ((cc0_scratch5.slice (Rect.unit (s := S2) ![1] ![1] inb_S2_S1_1)).squeeze S_ squeezes_S1_S_).sem = (10 : DmaSem sig) := by decide

/-- The two facts of the schedule used below, at a semaphore as the program names it. -/
theorem payload_at (p : Fin 5) (c : Dev nD) (s : SemLoc sig) (h : s = psem p) :
    (sched (F := F) m).payload ((c : Thread nD τ), s) 0 () = pay m c p := by subst h; exact payload_eq m p c ()
theorem rest_at (p : Fin 5) (c : Dev nD) (s : SemLoc sig) (h : s = psem p) :
    bigSep ((sched (F := F) m).duties ((c : Thread nD τ), s) 0 \ ∅) (fun u => (sched (F := F) m).payload ((c : Thread nD τ), s) 0 u) = pay m c p := by
  subst h; exact rest_eq m p c

/-! ## The two halves of a filled scratch buffer -/

/-- An entry of rows 0–15 of a filled first scratch buffer is a maximum, one of rows 16–31 a sum. -/
theorem mlFin_low (c : Dev nD) (j : S32x16.Idx) (i : S16x16.Idx) (h0 : (j 0).val = (i 0).val) (h1 : j 1 = i 1) : mlFin m c j = mAll m c i := by
  have hi : (i 0).val < 16 := (i 0).isLt
  unfold mlFin mAll
  rw [if_pos (by omega), h0, h1]
theorem mlFin_high (c : Dev nD) (j : S32x16.Idx) (i : S16x16.Idx) (h0 : (j 0).val = 16 + (i 0).val) (h1 : j 1 = i 1) : mlFin m c j = lAll m c i := by
  have e2 : pointOf (16 + (i 0).val) = pointOf (i 0).val := Fin.ext (by show (16 + (i 0).val) % 16 = (i 0).val % 16; omega)
  unfold mlFin lAll
  rw [if_neg (by omega), h0, e2, h1]

/-- Rows 0–15 are the maxima. -/
theorem load_maxima (c : Dev nD) :
    (mlS : Memref sig .tc .vmem S32x16 .f32).view.readAt (Elt F) (Rect.unit (s := S32x16) ![0, 0] S16x16.size inb_S32x16_S16x16_0_0).toLoadRect (mlFin m c) = mAll m c :=
  funext fun i => mlFin_low m c _ i (by show 0 + 1 * (i 0).val = _; omega) (Fin.ext (by show 0 + 1 * (i 1).val = _; omega))

/-- Rows 16–31 are the sums. -/
theorem load_sums (c : Dev nD) :
    (mlS : Memref sig .tc .vmem S32x16 .f32).view.readAt (Elt F) (Rect.unit (s := S32x16) ![16, 0] S16x16.size inb_S32x16_S16x16_16_0).toLoadRect (mlFin m c) = lAll m c :=
  funext fun i => mlFin_high m c _ i (by show 16 + 1 * (i 0).val = _; omega) (Fin.ext (by show 0 + 1 * (i 1).val = _; omega))

/-- The whole of a filled second scratch buffer. -/
theorem load_values (f : FVec F S16x1024 .f32) :
    (oS : Memref sig .tc .vmem S16x1024 .f32).view.readAt (Elt F) (Rect.unit (s := S16x1024) ![0, 0] S16x1024.size inb_S16x1024_S16x1024_0_0).toLoadRect f = f :=
  readAt_zero (View.whole cc0_scratch1) zero2 _ f

/-- What the program puts out, from what it loaded. -/
theorem merged_of (c : Dev nD) {a b a' b' : FVec F S16x16 .f32} {o o' : FVec F S16x1024 .f32} (ha : a = mAll m c) (hb : b = lAll m c)
    (ha' : a' = mAll m (mate c)) (hb' : b' = lAll m (mate c)) (ho : o = oFin m c) (ho' : o' = oFin m (mate c)) :
    k0_pay3 (k0_pay8 a b a' b') (k0_pay9 a a' o) (k0_pay10 a a' o') = merged m c := by
  subst ha hb ha' hb' ho ho'; rfl

/-! ## The two copies -/

section Sends

/-- The copy of the maxima and sums into the mate's first landing buffer. -/
theorem wp_send_ml {α : Type} {Kf : α → sProp 𝕄} (κ : GSem nD τ sig → ℕ) (c n : Dev nD) (hn : n = mate c) (W : Waits sig Unit)
    {k : PUnit → Prog (TpuEff nD τ sig (Elt F) Λ₀ .tc) α} {hsrc : mlS.view.WordExact} {hsc} {hdst} {hsem}
    (fn : Buf (Elt F) ((mate c : Thread nD τ).loc cc0_scratch2)) :
    iprop(cellInv ER (sched m) (κ (cell 1 c)) (cell 1 c) ∗ cellInv ER (sched m) (κ (cell 3 (mate c))) (cell 3 (mate c))
        ∗ has cc0_scratch0 c (mlFin m c) ∗ has cc0_scratch2 (mate c) fn
        ∗ owes (c : Thread nD τ) (tallyAt (cell 4 (mate c)) () nO + tallyAt (cell 3 (mate c)) () nMl) W
        ∗ dutyTok ER (cell 1 c) 0 () ∗ reached ER (cell 1 c) 0 ∗ dutyTok ER (cell 3 (mate c)) 0 () ∗ reached ER (cell 3 (mate c)) 0)
      ⊢ iprop(((cred (tallyAt (cell 1 c) () nMl) ∗ owes (c : Thread nD τ) (tallyAt (cell 4 (mate c)) () nO) W)
            -∗ wp frame (wpE (defs₀ (F := F)) 𝒱₀ (c : Thread nD τ) none) Set.univ (k ⟨⟩) Kf)
          -∗ wp frame (wpE (defs₀ (F := F)) 𝒱₀ (c : Thread nD τ) none) Set.univ
              (.op (.enqueueDma mlS (.remote (Dev.tc n : Thread nD τ) mlR (.dma 7) hsc) (.dma 9) hsrc hdst hsem) k) Kf) := by
  subst hn
  have h := Rounds.wp_send_pointsTo 𝒱₀ ER (sched m) (c : Thread nD τ) none (defs := defs₀ (F := F)) (Γ := .empty) (Es := Set.univ) (Q := Kf) (k := k) (c' := (mate c : Thread nD τ)) (src := mlS) (dst := mlR)
    (sS := .dma 7) (sem := .dma 9) (hsrc := hsrc) (hsc := hsc) (hdst := hdst) (hsem := hsem) (q := fullShare) (fs := mlFin m c) (κ₁ := κ (cell 1 c)) (κ₂ := κ (cell 3 (mate c)))
    (r₁ := 0) (r₂ := 0) (d₁ := ()) (d₂ := ()) (fd := fn)
    (duty_mem m 1 c) (duty_mem m 3 (mate c)) () () nMl rfl (amount_eq m 1 c ()) (amount_eq m 3 (mate c) ())
    (tallyAt (cell 4 (mate c)) () nO) rfl (W := W)
    (by rw [View.set_whole]; exact Entails.of_eq (payload_eq m 1 c ()).symm)
    (by rw [View.set_whole, View.read_whole, View.write_whole_univ]
        refine Entails.of_eq (Eq.trans ?_ (payload_eq m 3 (mate c) ()).symm)
        show _ = has cc0_scratch2 (mate c) (mlFin m (mate (mate c)))
        rw [mate_mate])
  rw [View.set_whole, View.set_whole] at h
  exact h

/-- The copy of the weighted values into the mate's second landing buffer. -/
theorem wp_send_o {α : Type} {Kf : α → sProp 𝕄} (κ : GSem nD τ sig → ℕ) (c n : Dev nD) (hn : n = mate c) (W : Waits sig Unit)
    {k : PUnit → Prog (TpuEff nD τ sig (Elt F) Λ₀ .tc) α} {hsrc : oS.view.WordExact} {hsc} {hdst} {hsem}
    (fn : Buf (Elt F) ((mate c : Thread nD τ).loc cc0_scratch3)) :
    iprop(cellInv ER (sched m) (κ (cell 2 c)) (cell 2 c) ∗ cellInv ER (sched m) (κ (cell 4 (mate c))) (cell 4 (mate c))
        ∗ has cc0_scratch1 c (oFin m c) ∗ has cc0_scratch3 (mate c) fn
        ∗ owes (c : Thread nD τ) (tallyAt (cell 4 (mate c)) () nO) W
        ∗ dutyTok ER (cell 2 c) 0 () ∗ reached ER (cell 2 c) 0 ∗ dutyTok ER (cell 4 (mate c)) 0 () ∗ reached ER (cell 4 (mate c)) 0)
      ⊢ iprop(((cred (tallyAt (cell 2 c) () nO) ∗ owes (c : Thread nD τ) 0 W)
            -∗ wp frame (wpE (defs₀ (F := F)) 𝒱₀ (c : Thread nD τ) none) Set.univ (k ⟨⟩) Kf)
          -∗ wp frame (wpE (defs₀ (F := F)) 𝒱₀ (c : Thread nD τ) none) Set.univ
              (.op (.enqueueDma oS (.remote (Dev.tc n : Thread nD τ) oR (.dma 8) hsc) (.dma 10) hsrc hdst hsem) k) Kf) := by
  subst hn
  have h := Rounds.wp_send_pointsTo 𝒱₀ ER (sched m) (c : Thread nD τ) none (defs := defs₀ (F := F)) (Γ := .empty) (Es := Set.univ) (Q := Kf) (k := k) (c' := (mate c : Thread nD τ)) (src := oS) (dst := oR)
    (sS := .dma 8) (sem := .dma 10) (hsrc := hsrc) (hsc := hsc) (hdst := hdst) (hsem := hsem) (q := fullShare) (fs := oFin m c) (κ₁ := κ (cell 2 c)) (κ₂ := κ (cell 4 (mate c)))
    (r₁ := 0) (r₂ := 0) (d₁ := ()) (d₂ := ()) (fd := fn)
    (duty_mem m 2 c) (duty_mem m 4 (mate c)) () () nO rfl (amount_eq m 2 c ()) (amount_eq m 4 (mate c) ())
    0 (by rw [zero_add]) (W := W)
    (by rw [View.set_whole]; exact Entails.of_eq (payload_eq m 2 c ()).symm)
    (by rw [View.set_whole, View.read_whole, View.write_whole_univ]
        refine Entails.of_eq (Eq.trans ?_ (payload_eq m 4 (mate c) ()).symm)
        show _ = has cc0_scratch3 (mate c) (oFin m (mate (mate c)))
        rw [mate_mate])
  rw [View.set_whole, View.set_whole] at h
  exact h

end Sends

/-- Everything the exchange gives back: the counters at zero and all four buffers. -/
def over (c : Dev nD) : sProp 𝕄 :=
  iprop(semVal (cell 0 c) 0 ∗ counters c ∗ hasAny cc0_scratch0 c ∗ hasAny cc0_scratch1 c ∗ hasAny cc0_scratch2 c ∗ hasAny cc0_scratch3 c)

section Last

variable (t : Fin cfg0.N)
  (M1 : Memref sig .tc .vmem S1x1024x1 .f32) (h1 : M1.IsWhole) (M2 : Memref sig .tc .vmem S1x1024x1024 .f32) (h2 : M2.IsWhole)
  (M3 : Memref sig .tc .vmem S1x1024x1024 .f32) (h3 : M3.IsWhole) (M4 : Memref sig .tc .vmem S16x1x1024 .f32) (h4 : M4.IsWhole)

set_option maxHeartbeats 4000000 in
set_option maxRecDepth 65536 in
/-- The exchange: from both scratch buffers filled it leaves the merged result in the output block. -/
theorem wp_exchange (c : Dev nD) (hc : k0_cond1 (grid0.coords t) = 1#1) (W : Waits sig Unit) (Kt : PUnit → sProp 𝕄) :
    iprop((armed m c ∗ has cc0_scratch0 c (mlFin m c) ∗ has cc0_scratch1 c (oFin m c) ∗ hasAny cc0_scratch2 c ∗ hasAny cc0_scratch3 c
          ∗ owes (c : Thread nD τ) (due c) W ∗ (∃ X : S16x1x1024.Idx → Elt F .f32, staged c M4 X))
        ∗ ((over c ∗ (∃ W' : Waits sig Unit, owes (c : Thread nD τ) 0 W') ∗ staged c M4 (merged m c)) -∗ Kt ⟨⟩))
      ⊢ wp frame (wpE (defs₀ (F := F)) 𝒱₀ c none) Set.univ (exchange t M1 h1 M2 h2 M3 h3 M4 h4 hc) Kt := by
  unfold exchange ex1 ex2 ex3
  rw [k0_part1_eq_skeleton, k0_part2_eq_skeleton, k0_part3_eq_skeleton]
  unfold k0_part1_skel k0_part2_skel k0_part3_skel
  simp only [semSignalWord, semWaitWord, Prog.lift, Prog.bind_op, Prog.bind_ret, Prog.pure_eq_ret, wp_deviceId, send0_sem, send1_sem, recv0_sem, recv1_sem, send0_sem', send1_sem', recv0_sem', recv1_sem']
  unfold staged owns armed positions payer credits ready
  iintro ⟨⟨⟨⟨%κ, #HI, ⟨#HrS0, #HrS1, #HrR0, #HrR1⟩, ⟨HaB, HaS0, HaS1, HaR0, HaR1⟩, HtB, HtS0, HtS1, HtR0, HtR1⟩, ⟨HcB, HcR0, HcR1⟩, #Hlev⟩, Hm, Ho, Hlm, Hlo, HO, ⟨%X, %g4, %e4, H4⟩⟩, Hk⟩
  ihave #HIB := (inv_of m κ 0 c) $$ HI
  ihave #HIS0 := (inv_of m κ 1 c) $$ HI
  ihave #HIS1 := (inv_of m κ 2 c) $$ HI
  ihave #HIR0 := (inv_of m κ 3 c) $$ HI
  ihave #HIR1 := (inv_of m κ 4 c) $$ HI
  ihave #HIBm := (inv_of m κ 0 (mate c)) $$ HI
  ihave #HIR0m := (inv_of m κ 3 (mate c)) $$ HI
  ihave #HIR1m := (inv_of m κ 4 (mate c)) $$ HI
  ihave #HrBm := (start_of m κ (mate c)) $$ HI
  -- the signal hands this device's landing buffers to the mate
  rw [signal_target c]
  iapply (Rounds.wp_signal 𝒱₀ ER (sched m) (c : Thread nD τ) none (dst := (mate c : Thread nD τ)) (r := 0) (d := ()) (κ := κ (cell 0 (mate c)))
      (duty_mem m 0 (mate c)) ((amount_eq m 0 (mate c) ()).trans (by decide)) ()
      (tallyAt (cell 4 (mate c)) () nO + tallyAt (cell 3 (mate c)) () nMl) rfl) $$ [HO HtB Hlm Hlo]
  · isplitr; · iexact HIBm
    isplitl [HO]; · unfold due; iexact HO
    isplitl [HtB]; · iexact HtB
    isplitl [Hlm Hlo]
    · iapply (Entails.of_eq ((payload_at m 0 (mate c) (SemLoc.reg barrier0) rfl).trans (show pay m (mate c) 0 = iprop(hasAny cc0_scratch2 c ∗ hasAny cc0_scratch3 c ∗ reached ER (cell 3 c) 0 ∗ reached ER (cell 4 c) 0) by
        unfold pay; rw [mate_mate])).symm)
      isplitl [Hlm]; · iexact Hlm
      isplitl [Hlo]; · iexact Hlo
      isplitr; · iexact HrR0
      iexact HrR1
    · iexact HrBm
  iintro HO
  -- the mate's signal brings the mate's landing buffers
  iapply (Rounds.wp_wait_rest_token 𝒱₀ ER (sched m) (c : Thread nD τ) none (κ := κ (cell 0 c))
      (wpE_semWait_eq 𝒱₀ (c : Thread nD τ) none Set.univ) (Set.mem_univ _) () (O := tallyAt (cell 4 (mate c)) () nO + tallyAt (cell 3 (mate c)) () nMl) (W := W) (R := 0) (m := 0) (T := ∅)
      ((Nat.zero_add _).trans (Eq.trans (by decide) (expect_eq m 0 c).symm))) $$ [HcB HO HaB]
  · isplitr; · iexact HIB
    isplitl [HcB]; · iexact HcB
    isplitl [HO]; · iexact HO
    isplitr; · iapply (mayWait_signal c); iexact Hlev
    iexact HaB
  iintro ⟨HO, HaB, -, Hpay⟩
  ihave Hp := (Entails.of_eq (rest_at m 0 c (.reg barrier0) rfl)) $$ Hpay
  unfold pay
  icases Hp with ⟨⟨%fm, Hlm⟩, ⟨%fo, Hlo⟩, #HrR0m, #HrR1m⟩
  -- the two copies
  iapply (wp_send_ml m κ c _ (copy0_target c) (insert (SemLoc.reg barrier0, ()) W) fm) $$ [Hm Hlm HO HtS0 HtR0]
  · isplitr; · iexact HIS0
    isplitr; · iexact HIR0m
    isplitl [Hm]; · iexact Hm
    isplitl [Hlm]; · iexact Hlm
    isplitl [HO]; · iexact HO
    isplitl [HtS0]; · iexact HtS0
    isplitr; · iexact HrS0
    isplitl [HtR0]; · iexact HtR0
    iexact HrR0m
  iintro ⟨HcS0, HO⟩
  iapply (wp_send_o m κ c _ (copy1_target c) (insert (SemLoc.reg barrier0, ()) W) fo) $$ [Ho Hlo HO HtS1 HtR1]
  · isplitr; · iexact HIS1
    isplitr; · iexact HIR1m
    isplitl [Ho]; · iexact Ho
    isplitl [Hlo]; · iexact Hlo
    isplitl [HO]; · iexact HO
    isplitl [HtS1]; · iexact HtS1
    isplitr; · iexact HrS1
    isplitl [HtR1]; · iexact HtR1
    iexact HrR1m
  iintro ⟨HcS1, HO⟩
  -- the four waits
  iapply (Rounds.wp_wait_rest_token 𝒱₀ ER (sched m) (c : Thread nD τ) none (κ := κ (cell 1 c))
      (wpE_waitDma2_eq 𝒱₀ (c : Thread nD τ) none Set.univ (src := mlR) (dst := mlS)) (Set.mem_univ _) () (O := 0) (R := 0) (m := 0) (T := ∅)
      ((Nat.zero_add _).trans (expect_eq m 1 c).symm)) $$ [HcS0 HO HaS0]
  · isplitr; · iexact HIS0
    isplitl [HcS0]; · iexact HcS0
    isplitl [HO]; · iexact HO
    isplitr; · rw [MayWait_zero]; iempintro
    iexact HaS0
  iintro ⟨HO, HaS0, -, Hpay⟩
  ihave Hm := (Entails.of_eq (rest_at m 1 c (.dma 7) rfl)) $$ Hpay
  iapply (Rounds.wp_wait_rest_token 𝒱₀ ER (sched m) (c : Thread nD τ) none (κ := κ (cell 3 c))
      (wpE_waitDma2_eq 𝒱₀ (c : Thread nD τ) none Set.univ (src := mlS) (dst := mlR)) (Set.mem_univ _) () (O := 0) (R := 0) (m := 0) (T := ∅)
      ((Nat.zero_add _).trans (expect_eq m 3 c).symm)) $$ [HcR0 HO HaR0]
  · isplitr; · iexact HIR0
    isplitl [HcR0]; · iexact HcR0
    isplitl [HO]; · iexact HO
    isplitr; · rw [MayWait_zero]; iempintro
    iexact HaR0
  iintro ⟨HO, HaR0, -, Hpay⟩
  ihave Hlm := (Entails.of_eq (rest_at m 3 c (.dma 9) rfl)) $$ Hpay
  iapply (Rounds.wp_wait_rest_token 𝒱₀ ER (sched m) (c : Thread nD τ) none (κ := κ (cell 2 c))
      (wpE_waitDma2_eq 𝒱₀ (c : Thread nD τ) none Set.univ (src := oR) (dst := oS)) (Set.mem_univ _) () (O := 0) (R := 0) (m := 0) (T := ∅)
      ((Nat.zero_add _).trans (expect_eq m 2 c).symm)) $$ [HcS1 HO HaS1]
  · isplitr; · iexact HIS1
    isplitl [HcS1]; · iexact HcS1
    isplitl [HO]; · iexact HO
    isplitr; · rw [MayWait_zero]; iempintro
    iexact HaS1
  iintro ⟨HO, HaS1, -, Hpay⟩
  ihave Ho := (Entails.of_eq (rest_at m 2 c (.dma 8) rfl)) $$ Hpay
  iapply (Rounds.wp_wait_rest_token 𝒱₀ ER (sched m) (c : Thread nD τ) none (κ := κ (cell 4 c))
      (wpE_waitDma2_eq 𝒱₀ (c : Thread nD τ) none Set.univ (src := oS) (dst := oR)) (Set.mem_univ _) () (O := 0) (R := 0) (m := 0) (T := ∅)
      ((Nat.zero_add _).trans (expect_eq m 4 c).symm)) $$ [HcR1 HO HaR1]
  · isplitr; · iexact HIR1
    isplitl [HcR1]; · iexact HcR1
    isplitl [HO]; · iexact HO
    isplitr; · rw [MayWait_zero]; iempintro
    iexact HaR1
  iintro ⟨HO, HaR1, -, Hpay⟩
  ihave Hlo := (Entails.of_eq (rest_at m 4 c (.dma 10) rfl)) $$ Hpay
  -- every port has had its payment: the counters come back at zero
  imod (close m (κ (cell 0 c)) (cell 0 c)) $$ [HaB] with HzB
  · isplitr; · iexact HIB
    iexact HaB
  imod (close m (κ (cell 1 c)) (cell 1 c)) $$ [HaS0] with HzS0
  · isplitr; · iexact HIS0
    iexact HaS0
  imod (close m (κ (cell 2 c)) (cell 2 c)) $$ [HaS1] with HzS1
  · isplitr; · iexact HIS1
    iexact HaS1
  imod (close m (κ (cell 3 c)) (cell 3 c)) $$ [HaR0] with HzR0
  · isplitr; · iexact HIR0
    iexact HaR0
  imod (close m (κ (cell 4 c)) (cell 4 c)) $$ [HaR1] with HzR1
  · isplitr; · iexact HIR1
    iexact HaR1
  unfold pay
  -- the merge
  iapply (wp_load 𝒱₀ (c : Thread nD τ) none Set.univ (m := mlS) (Finset.subset_univ _)) $$ Hm; iintro Hm
  iapply (wp_load 𝒱₀ (c : Thread nD τ) none Set.univ (m := mlS) (Finset.subset_univ _)) $$ Hm; iintro Hm
  iapply (wp_load 𝒱₀ (c : Thread nD τ) none Set.univ (m := mlR) (Finset.subset_univ _)) $$ Hlm; iintro Hlm
  iapply (wp_load 𝒱₀ (c : Thread nD τ) none Set.univ (m := mlR) (Finset.subset_univ _)) $$ Hlm; iintro Hlm
  iapply (wp_load 𝒱₀ (c : Thread nD τ) none Set.univ (m := oS) (Finset.subset_univ _)) $$ Ho; iintro Ho
  iapply (wp_load 𝒱₀ (c : Thread nD τ) none Set.univ (m := oR) (Finset.subset_univ _)) $$ Hlo; iintro Hlo
  iapply (wp_load 𝒱₀ (c : Thread nD τ) none Set.univ (m := M4) (View.setOn_subset_set _ _)) $$ H4; iintro H4
  iapply (wp_store 𝒱₀ (c : Thread nD τ) none Set.univ (m := M4) (r := Rect.unit (s := S16x1x1024) ![0, 0, 0] S16x1x1024.size inb_S16x1x1024_S16x1x1024_0_0_0)
    (Mk := Finset.univ) (S := M4.view.set) (View.setOn_univ _ ▸ View.set_slice_subset _ _)) $$ H4; iintro H4
  rw [wp_ret]; imodintro
  iapply Hk
  unfold over counters
  isplitl [HzB HzS0 HzS1 HzR0 HzR1 Hm Ho Hlm Hlo]
  · isplitl [HzB]; · iexact HzB
    isplitl [HzS0 HzS1 HzR0 HzR1]
    · isplitl [HzS0]; · iexact HzS0
      isplitl [HzS1]; · iexact HzS1
      isplitl [HzR0]; · iexact HzR0
      iexact HzR1
    isplitl [Hm]; · iexists _; iexact Hm
    isplitl [Ho]; · iexists _; iexact Ho
    isplitl [Hlm]; · iexists _; iexact Hlm
    iexists _; iexact Hlo
  isplitl [HO]; · iexists _; iexact HO
  iexists _
  isplitr
  rotate_left
  · iexact H4
  · ipureintro
    refine (read_write_zero M4.view zero3 _ _ _).trans ?_
    exact merged_of m c (load_maxima m c) (load_sums m c) (load_maxima m (mate c)) (load_sums m (mate c)) (load_values _) (load_values _)

end Last

end Cert.KernelIdealExchange

end
-- ==== Proof.KernelIdeal.Body.lean ====
/-
  The pipeline's proof data: what the body keeps from point to point, what it owes, and what it leaves in every staging
  buffer; and the proof that the body keeps to it.
-/
module

public import proofs.«01_k».proof.Proof.KernelIdeal.Exchange

@[expose] public section

noncomputable section

namespace Cert.KernelIdealExchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- While the rows are written: everything for the exchange, and the scratch buffers with the rows before `n` written. -/
def filling (c : Dev nD) (n : ℕ) : sProp 𝕄 :=
  iprop(armed m c ∗ (∃ f : FVec F S32x16 .f32, ⌜MlDone m c n f⌝ ∗ has cc0_scratch0 c f) ∗ (∃ f : FVec F S16x1024 .f32, ⌜ODone m c n f⌝ ∗ has cc0_scratch1 c f)
    ∗ hasAny cc0_scratch2 c ∗ hasAny cc0_scratch3 c ∗ ∃ r, prngReg c r)

/-- What the body keeps before point `n`: at the end the exchange is over. -/
def Phi (c : Dev nD) (n : ℕ) : sProp 𝕄 := if n < 16 then filling m c n else iprop(over c ∗ ∃ r, prngReg c r)

theorem Phi_filling (c : Dev nD) {n : ℕ} (h : n < 16) : Phi m c n = filling m c n := if_pos h
theorem Phi_over (c : Dev nD) : Phi m c 16 = iprop(over c ∗ ∃ r, prngReg c r) := if_neg (by decide)

/-- What a device owes before point `n`. -/
def owing (c : Dev nD) (n : ℕ) : CellTallies nD τ sig Unit := if n < 16 then due c else 0

/-- What the body leaves in the staging buffers: its inputs as they were, the merged result. -/
def left (c : Dev nD) : (w : Fin cfg0.W) → Fin cfg0.N → (cfg0.win w).block.Idx → Elt F (cfg0.win w).elt :=
  fun | 0 => fun t => iblk m c 0 t | 1 => fun t => iblk m c 1 t | 2 => fun t => iblk m c 2 t | 3 => fun _ => merged m c
      | ⟨_ + 4, h⟩ => absurd h (Nat.not_lt.2 (Nat.le_add_left _ _))

/-- The proof data of the pipeline on device `c`. -/
def dat (c : Dev nD) : Dat τ (Elt F) Unit ℕ UU ℕ cfg0 c where
  A w := V m c (Pipeline.arrRef spec0 w)
  after := left m c
  Φ t := Phi m c t.val
  q _ := fullShare
  owed t := owing c t.val

/-- The three input blocks are staged at every point. -/
theorem before0 (c : Dev nD) (t : Fin cfg0.N) (d) : (dat m c).before 0 t d = qBlk m c t :=
  ((dat m c).before_in_eq_fetched 0 rfl (fun _ => rfl) (fun _ _ _ => rfl) (fun t => rfl) t d).trans rfl
theorem before1 (c : Dev nD) (t : Fin cfg0.N) (d) : (dat m c).before 1 t d = kBlk m c t :=
  ((dat m c).before_in_eq_fetched 1 rfl (fun _ => rfl) (fun _ _ _ => rfl) (fun t => rfl) t d).trans rfl
theorem before2 (c : Dev nD) (t : Fin cfg0.N) (d) : (dat m c).before 2 t d = vBlk m c t :=
  ((dat m c).before_in_eq_fetched 2 rfl (fun _ => rfl) (fun _ _ _ => rfl) (fun t => rfl) t d).trans rfl

/-- The debt as the pipeline keeps it, from a debt and to a debt. -/
theorem owesAt_of (c : Dev nD) (n : Fin (cfg0.N + 1)) (W : Waits sig Unit) :
    (owes (c : Thread nD τ) (owing c n.val) W : sProp 𝕄) ⊢ (dat m c).owesAt () n := by
  unfold Dat.owesAt Pipeline.owesWithin
  rw [show (dat m c).owed n = owing c n.val from rfl]
  iintro HO; iexists W
  isplitr
  · ipureintro; exact fun _ _ => Or.inl trivial
  iexact HO
theorem of_owesAt (c : Dev nD) (n : Fin (cfg0.N + 1)) :
    ((dat m c).owesAt () n : sProp 𝕄) ⊢ iprop(∃ W, owes (c : Thread nD τ) (owing c n.val) W) := by
  unfold Dat.owesAt Pipeline.owesWithin
  rw [show (dat m c).owed n = owing c n.val from rfl]
  iintro ⟨%W, -, HO⟩; iexists W; iexact HO

section Body

variable (t : Fin cfg0.N)
  (M1 : Memref sig .tc .vmem S1x1024x1 .f32) (h1 : M1.IsWhole) (M2 : Memref sig .tc .vmem S1x1024x1024 .f32) (h2 : M2.IsWhole)
  (M3 : Memref sig .tc .vmem S1x1024x1024 .f32) (h3 : M3.IsWhole) (M4 : Memref sig .tc .vmem S16x1x1024 .f32) (h4 : M4.IsWhole)

set_option maxHeartbeats 1600000 in
/-- A point before the last writes its rows. -/
theorem wp_early (c : Dev nD) (ht : t.val ≠ 15) :
    iprop(filling m c t.val ∗ staged c M1 (qBlk m c t) ∗ staged c M2 (kBlk m c t) ∗ staged c M3 (vBlk m c t))
      ⊢ wp frame (wpE (defs₀ (F := F)) 𝒱₀ c none) Set.univ (bodyOn t M1 h1 M2 h2 M3 h3 M4 h4)
          (fun _ => iprop(filling m c (t.val + 1) ∗ staged c M1 (qBlk m c t) ∗ staged c M2 (kBlk m c t) ∗ staged c M3 (vBlk m c t))) := by
  unfold filling
  iintro ⟨⟨Ha, ⟨%f0, %hf0, H0⟩, ⟨%f1, %hf1, H1⟩, H2, H3, Hp⟩, Hq, Hk, Hv⟩
  iapply (wp_rows m t M1 h1 M2 h2 M3 h3 M4 h4 c f0 f1)
  isplitl [Hq Hk Hv H0 H1]
  · isplitl [Hq]; · iexact Hq
    isplitl [Hk]; · iexact Hk
    isplitl [Hv]; · iexact Hv
    isplitl [H0] <;> iassumption
  iintro ⟨Hq, Hk, Hv, H0, H1⟩
  unfold ending
  rw [dif_neg (fun h => ht ((branch_iff t).mp h))]
  simp only [Prog.bind_ret, Prog.pure_eq_ret]
  rw [wp_ret]; imodintro
  isplitr [Hq Hk Hv]
  · isplitl [Ha]; · iexact Ha
    isplitl [H0]
    · iexists _; isplitr
      · ipureintro; exact mlDone_step m hf0
      · iexact H0
    isplitl [H1]
    · iexists _; isplitr
      · ipureintro; exact oDone_step m hf1
      · iexact H1
    isplitl [H2]; · iexact H2
    isplitl [H3] <;> iassumption
  isplitl [Hq]; · iexact Hq
  isplitl [Hk] <;> iassumption

set_option maxHeartbeats 1600000 in
/-- The last point writes its rows, exchanges and merges. -/
theorem wp_late (c : Dev nD) (ht : t.val = 15) (W : Waits sig Unit) :
    iprop(filling m c t.val ∗ owes (c : Thread nD τ) (due c) W ∗ staged c M1 (qBlk m c t) ∗ staged c M2 (kBlk m c t) ∗ staged c M3 (vBlk m c t)
        ∗ (∃ X : S16x1x1024.Idx → Elt F .f32, staged c M4 X))
      ⊢ wp frame (wpE (defs₀ (F := F)) 𝒱₀ c none) Set.univ (bodyOn t M1 h1 M2 h2 M3 h3 M4 h4)
          (fun _ => iprop((over c ∗ ∃ r, prngReg c r) ∗ (∃ W' : Waits sig Unit, owes (c : Thread nD τ) 0 W')
            ∗ staged c M1 (qBlk m c t) ∗ staged c M2 (kBlk m c t) ∗ staged c M3 (vBlk m c t) ∗ staged c M4 (merged m c))) := by
  unfold filling
  iintro ⟨⟨Ha, ⟨%f0, %hf0, H0⟩, ⟨%f1, %hf1, H1⟩, H2, H3, Hp⟩, HO, Hq, Hk, Hv, Hx⟩
  iapply (wp_rows m t M1 h1 M2 h2 M3 h3 M4 h4 c f0 f1)
  isplitl [Hq Hk Hv H0 H1]
  · isplitl [Hq]; · iexact Hq
    isplitl [Hk]; · iexact Hk
    isplitl [Hv]; · iexact Hv
    isplitl [H0] <;> iassumption
  iintro ⟨Hq, Hk, Hv, H0, H1⟩
  have e0 := mlDone_last m (show MlDone m c 16 _ from by have := mlDone_step m hf0; rw [ht] at this; exact this)
  have e1 := oDone_last m (show ODone m c 16 _ from by have := oDone_step m hf1; rw [ht] at this; exact this)
  rw [e0, e1]
  unfold ending
  rw [dif_pos ((branch_iff t).mpr ht)]
  simp only [Prog.bind_ret, Prog.pure_eq_ret, Prog.bind_pure]
  iapply (wp_exchange m t M1 h1 M2 h2 M3 h3 M4 h4 c ((branch_iff t).mpr ht) W)
  isplitl [Ha H0 H1 H2 H3 HO Hx]
  · isplitl [Ha]; · iexact Ha
    isplitl [H0]; · iexact H0
    isplitl [H1]; · iexact H1
    isplitl [H2]; · iexact H2
    isplitl [H3]; · iexact H3
    isplitl [HO] <;> iassumption
  iintro ⟨Hover, HO, Hx⟩
  isplitl [Hover Hp]; · isplitl [Hover] <;> iassumption
  isplitl [HO]; · iexact HO
  isplitl [Hq]; · iexact Hq
  isplitl [Hk]; · iexact Hk
  isplitl [Hv] <;> iassumption

end Body

/-- The output window is idle exactly before the last point. -/
theorem idle3 (t : Fin cfg0.N) (ht : t.val ≠ 15) : idle0 3 (grid0.coords t) = true := by
  rcases fin_N0 t with rfl | rfl | rfl | rfl | rfl | rfl | rfl | rfl | rfl | rfl | rfl | rfl | rfl | rfl | rfl | rfl <;> first | rfl | exact absurd rfl ht
theorem busy3 (t : Fin cfg0.N) (ht : t.val = 15) : idle0 3 (grid0.coords t) = false := by
  rcases fin_N0 t with rfl | rfl | rfl | rfl | rfl | rfl | rfl | rfl | rfl | rfl | rfl | rfl | rfl | rfl | rfl | rfl <;> first | rfl | exact absurd ht (by decide)
theorem flush3 (t : Fin cfg0.N) (ht : t.val ≠ 15) : (win0 3).flush t = false := by
  have h := flush0_3 t
  have hlt := t_lt t
  cases hf : (win0 3).flush t with
  | false => rfl
  | true => exact absurd (h.mp hf) (by omega)

/-- The body keeps to the proof data at every point. -/
theorem body_ok (c : Dev nD) : BodyObligation (dat (F := F) m c) (defs₀ (F := F)) 𝒱₀ () Set.univ := fun t => by
  rw [bigSep_W0, bigSep_W0]
  have hlt := t_lt t
  change _ ⊢ wp frame (wpE (defs₀ (F := F)) 𝒱₀ c none) Set.univ (bodyAt0 t) _
  by_cases ht : t.val = 15
  · simp only [busy3 t ht]
    rw [show (dat m c).Φ t.castSucc = filling m c t.val from Phi_filling m c hlt,
      show (dat m c).Φ t.succ = iprop(over c ∗ ∃ r, prngReg c r) from (congrArg (Phi m c) (show t.val + 1 = 16 by omega)).trans (Phi_over m c)]
    iintro ⟨HΦ, HO, ⟨%d0, Hq⟩, ⟨%d1, Hk⟩, ⟨%d2, Hv⟩, ⟨%d3, Hx⟩⟩
    rw [before0, before1, before2]
    ihave HO' := (of_owesAt m c t.castSucc) $$ HO
    icases HO' with ⟨%W, HO⟩
    rw [show owing c t.castSucc.val = due c from if_pos hlt]
    iapply (wp_mono _ _ _ (fun _ => ?_))
    rotate_left
    · iapply (wp_late m t _ _ _ _ _ _ _ _ c ht W)
      isplitl [HΦ]; · iexact HΦ
      isplitl [HO]; · iexact HO
      isplitl [Hq]; · iexact Hq
      isplitl [Hk]; · iexact Hk
      isplitl [Hv]; · iexact Hv
      iexists _; iexact Hx
    iintro ⟨HΦ, ⟨%W', HO⟩, Hq, Hk, Hv, Hx⟩
    isplitl [HΦ]; · iexact HΦ
    isplitl [HO]
    · iapply (owesAt_of m c t.succ W')
      rw [show owing c t.succ.val = 0 from if_neg (by rw [show t.succ.val = t.val + 1 from rfl, ht]; decide)]
      iexact HO
    isplitl [Hq]; · iexact Hq
    isplitl [Hk]; · iexact Hk
    isplitl [Hv]; · iexact Hv
    iexact Hx
  · simp only [idle3 t ht, flush3 t ht]
    rw [show (dat m c).Φ t.castSucc = filling m c t.val from Phi_filling m c hlt,
      show (dat m c).Φ t.succ = filling m c (t.val + 1) from Phi_filling m c (show t.val + 1 < 16 by omega)]
    iintro ⟨HΦ, HO, ⟨%d0, Hq⟩, ⟨%d1, Hk⟩, ⟨%d2, Hv⟩, Hx⟩
    rw [before0, before1, before2]
    ihave HO' := (of_owesAt m c t.castSucc) $$ HO
    icases HO' with ⟨%W, HO⟩
    rw [show owing c t.castSucc.val = owing c t.succ.val from (if_pos hlt).trans (if_pos (show t.val + 1 < 16 by omega)).symm]
    iapply (wp_wand_r _ _ _)
    isplitl [HΦ Hq Hk Hv]
    · iapply (wp_early m t _ _ _ _ _ _ _ _ c ht)
      isplitl [HΦ]; · iexact HΦ
      isplitl [Hq]; · iexact Hq
      isplitl [Hk] <;> iassumption
    iintro %_ ⟨HΦ, Hq, Hk, Hv⟩
    isplitl [HΦ]; · iexact HΦ
    isplitl [HO]
    · iapply (owesAt_of m c t.succ W)
      iexact HO
    isplitl [Hq]; · iexact Hq
    isplitl [Hk]; · iexact Hk
    isplitl [Hv]; · iexact Hv
    iexact Hx

end Cert.KernelIdealExchange

end
-- ==== Proof.KernelIdeal.Deal.lean ====
/-
  The launch: what the machine deals every device, made into what the exchange needs. Every port's invariant is set up at
  once, the sixteen signal ports from their counters and the copy ports still closed; each device gets its own positions,
  its rights to open its copy ports, and the tokens of the payments it makes, two thirds of which go to its mate.
-/
module

public import proofs.«01_k».proof.Proof.KernelIdeal.Body

@[expose] public section

noncomputable section

namespace Cert.KernelIdealExchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Smoke (bigSep_pair bigSep_unpair)
open Idealize.ShloMosaic.ValueIdx (ix2)
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch element -/

/-- The token of the one payment into every port. -/
def portToks : Finset (GSem nD τ sig × ℕ × Unit) :=
  Finset.univ.map ⟨fun x : Dev nD × Fin 5 => (cell x.2 x.1, 0, ()), fun x y h => by
    have h1 : cell x.2 x.1 = cell y.2 y.1 := congrArg Prod.fst h
    exact Prod.ext (congrArg (fun g : GSem nD τ sig => g.1.1) h1) (psem_inj (congrArg Prod.snd h1))⟩

/-- No signal port is a copy port. -/
theorem ports_disjoint : Disjoint (sigCells : Finset (GSem nD τ sig)) copyCells := by
  refine Finset.disjoint_left.mpr fun g h h' => ?_
  obtain ⟨c, -, rfl⟩ := Finset.mem_map.mp h
  obtain ⟨x, -, e⟩ := Finset.mem_map.mp h'
  exact Fin.succ_ne_zero x.2 (psem_inj (congrArg Prod.snd e))

/-- The tokens, port by port and device by device. -/
def tokens (c : Dev nD) : sProp 𝕄 :=
  iprop(dutyTok ER (cell 0 c) 0 () ∗ dutyTok ER (cell 1 c) 0 () ∗ dutyTok ER (cell 2 c) 0 () ∗ dutyTok ER (cell 3 c) 0 () ∗ dutyTok ER (cell 4 c) 0 ())

theorem portToks_dealt : bigSep portToks (fun x => (dutyTok ER x.1 x.2.1 x.2.2 : sProp 𝕄)) = bigSep Finset.univ fun c : Dev nD => tokens c := by
  unfold portToks; rw [bigSep_map, bigSep_univ_prod]
  exact bigSep_congr fun c _ => bigSep_univ_eq_bigSepL [(0 : Fin 5), 1, 2, 3, 4] (by decide) (by decide) fun p => (dutyTok ER (cell p c) 0 () : sProp 𝕄)

/-- Tokens for the signal and for the landings change hands between mates. -/
theorem tokens_to_payers : (bigSep Finset.univ fun c : Dev nD => (tokens c : sProp 𝕄)) ⊢ bigSep Finset.univ fun c : Dev nD => payer c := by
  unfold tokens payer
  rw [bigSep_sep', bigSep_sep', bigSep_sep', bigSep_sep', bigSep_sep', bigSep_sep', bigSep_sep', bigSep_sep',
    bigSep_univ_equiv mates (fun c : Dev nD => (dutyTok ER (cell 0 c) 0 () : sProp 𝕄)),
    bigSep_univ_equiv mates (fun c : Dev nD => (dutyTok ER (cell 3 c) 0 () : sProp 𝕄)),
    bigSep_univ_equiv mates (fun c : Dev nD => (dutyTok ER (cell 4 c) 0 () : sProp 𝕄))]
  exact BI.Entails.refl _

/-! ## The credit for the payments others make -/

/-- A tally at one port of a device's mate, read at some port. -/
theorem tally_mate (p q : Fin 5) (c d : Dev nD) (n : ℕ) :
    (tallyAt (cell q (mate d)) () n : CellTallies nD τ sig Unit) (cell p c) () = if p = q ∧ d = mate c then n else 0 := by
  rw [tallyAt_apply]
  refine if_congr ⟨fun h => ?_, fun h => ?_⟩ rfl rfl
  · have hc : c = mate d := congrArg (fun g : GSem nD τ sig => g.1.1) h.1
    exact ⟨psem_inj (congrArg Prod.snd h.1), by rw [hc, mate_mate]⟩
  · obtain ⟨rfl, rfl⟩ := h
    exact ⟨by rw [mate_mate], rfl⟩

/-- What device `d` owes port `p` of device `c`. -/
theorem due_port (p : Fin 5) (c d : Dev nD) (hp : p = 0 ∨ p = 3 ∨ p = 4) :
    due d (cell p c) () = if d = mate c then amt p else 0 := by
  unfold due
  rw [Pi.add_apply, Finsupp.add_apply, Pi.add_apply, Finsupp.add_apply, tally_mate, tally_mate, tally_mate]
  by_cases hd : d = mate c
  · rcases hp with rfl | rfl | rfl <;> simp [hd, amt]
  · simp [hd]

/-- The launch books exactly one payment to each of the three ports. -/
theorem booked (p : Fin 5) (c : Dev nD) (hp : p = 0 ∨ p = 3 ∨ p = 4) :
    tallyOn (cell p c) (launchCredit (Pipeline.owing due) 0 (cell p c)) = (tallyAt (cell p c) () (amt p) : CellTallies nD τ sig Unit) := by
  unfold tallyAt
  refine congrArg _ (Finsupp.ext fun u => ?_)
  cases u
  rw [Pipeline.launchCredit_owing, Finsupp.single_eq_same, Finset.sum_congr rfl fun d _ => due_port p c d hp,
    Finset.sum_ite_eq' Finset.univ (mate c) fun _ => amt p, if_pos (Finset.mem_univ _)]

theorem credits_dealt (c : Dev nD) : (Pipeline.launchCred due c : sProp 𝕄) ⊢ credits c := by
  unfold Pipeline.launchCred credits
  have h := bigSep_subset (Φ := fun sm : SemLoc sig => (cred (tallyOn ((c : Thread nD τ), sm) (launchCredit (Pipeline.owing due) 0 ((c : Thread nD τ), sm))) : sProp 𝕄))
    (Finset.subset_univ ({psem 0, psem 3, psem 4} : Finset (SemLoc sig)))
  rw [bigSep_insert (by decide), bigSep_insert (by decide), bigSep_singleton, booked 0 c (.inl rfl), booked 3 c (.inr (.inl rfl)), booked 4 c (.inr (.inr rfl))] at h
  exact h

/-! ## The deal -/

/-- What the launch keeps for the exchange. -/
def Tk (c : Dev nD) : sProp 𝕄 := iprop((∃ κ, records m κ ∗ holding c) ∗ credits c)

/-- What a device carries beside its buffers up to the kernel. -/
def side (c : Dev nD) : sProp 𝕄 := iprop(Tk m c ∗ (∃ r, prngReg c r) ∗ ∃ W, owes (c : Thread nD τ) (due c) W)

/-- What a device starts from. -/
def T₀ (c : Dev nD) : sProp 𝕄 := iprop(StableHlo.held (c : Thread nD τ) (Pipeline.ucRefs τ sig) (fun b => m (c, b)) ∗ side m c)

/-- The whole launch element, set down on device 0 until the ports are set up. -/
def parked (c : Dev nD) : sProp 𝕄 := if c = 0 then BI.own (ER (launchOf sigCells copyCells portToks)) else iprop(emp)

theorem parked_all : bigSep Finset.univ (parked (F := F)) = BI.own (ER (launchOf sigCells copyCells portToks)) := by
  have h : bigSep (Finset.univ.erase (0 : Dev nD)) (parked (F := F)) = bigSep (Finset.univ.erase (0 : Dev nD)) (fun _ => (BI.emp : sProp 𝕄)) :=
    bigSep_congr fun c hc => by unfold parked; rw [if_neg (Finset.ne_of_mem_erase hc)]; rfl
  rw [bigSep_univ_at _ (0 : Dev nD), h, BI.bigSep_emp_const]
  unfold parked; rw [if_pos rfl]
  exact BI.equiv_iff.mp sep_emp

theorem signal_sems (c : Dev nD) : (unscopedSems0 c : sProp 𝕄) = semVal (cell 0 c) 0 := by
  unfold unscopedSems0
  rw [show (Finset.univ.filter fun sm : SemLoc sig => ¬ sm.isScoped .tc) = {psem 0} from by decide, BI.bigSep_singleton]

/-- What of a device's launch holdings is not the protocol's. -/
def plain (c : Dev nD) : sProp 𝕄 :=
  iprop(StableHlo.held (c : Thread nD τ) (Pipeline.ucRefs τ sig) (fun b => m (c, b)) ∗ credits c ∗ owes (c : Thread nD τ) (due c) ∅ ∗ ∃ r, prngReg c r)

theorem plain_dealt (c : Dev nD) :
    iprop(unscopedBufs c (fun b => m ((c : Thread nD τ).loc b)) ∗ unscopedSems0 c ∗ owes (c : Thread nD τ) (due c) ∅ ∗ Pipeline.launchCred due c
        ∗ prngReg c (ρ c) ∗ parked c)
      ⊢ (iprop(plain m c ∗ (semVal (cell 0 c) 0 ∗ parked c)) : sProp 𝕄) := by
  rw [show (unscopedBufs c (fun b => m ((c : Thread nD τ).loc b)) : sProp 𝕄) = StableHlo.held (c : Thread nD τ) (Pipeline.ucRefs τ sig) (fun b => m (c, b))
    from Pipeline.unscopedBufs_held c (fun b => m (c, b)), signal_sems]
  unfold plain
  iintro ⟨Hb, Hs, HO, Hc, Hp, Hg⟩
  ihave Hc' := (credits_dealt (F := F) c) $$ Hc
  isplitl [Hb HO Hc' Hp]
  · isplitl [Hb]; · iexact Hb
    isplitl [Hc']; · iexact Hc'
    isplitl [HO]; · iexact HO
    iexists (ρ c); iexact Hp
  isplitl [Hs] <;> iassumption

theorem start_made (κ : GSem nD τ sig → ℕ) (c : Dev nD) : iprop(records m κ ∗ (holding c ∗ plain m c)) ⊢ T₀ m c := by
  unfold plain T₀ side Tk
  iintro ⟨#HR, Hh, Hb, Hc, HO, Hp⟩
  isplitl [Hb]; · iexact Hb
  isplitl [Hh Hc]
  · isplitl [Hh]
    · iexists κ; isplitr; · iexact HR
      iexact Hh
    iexact Hc
  isplitl [Hp]; · iexact Hp
  iexists ∅; iexact HO

/-- The global step at launch: every port set up, and everything dealt. -/
theorem init :
    iprop((bigSep Finset.univ fun c : Dev nD => iprop(unscopedBufs c (fun b => m ((c : Thread nD τ).loc b)) ∗ unscopedSems0 c
          ∗ owes (c : Thread nD τ) (due c) ∅ ∗ Pipeline.launchCred due c ∗ prngReg c (ρ c) ∗ parked c)) ∗ levAts L lv)
      ⊢ (|={Set.univ}=> bigSep Finset.univ (T₀ m) : sProp 𝕄) := by
  have hsig : bigSep Finset.univ (fun c : Dev nD => (semVal (cell 0 c) 0 : sProp 𝕄)) ⊢ bigSep sigCells (fun g => (semVal g 0 : sProp 𝕄)) :=
    Entails.of_eq (bigSep_map (s := Finset.univ) sigEmb (Φ := fun g : GSem nD τ sig => (semVal g 0 : sProp 𝕄))).symm
  have hpos : bigSep sigCells (fun g => (atPos ER g 0 ∅ 0 : sProp 𝕄)) ⊢ bigSep Finset.univ (fun c : Dev nD => (atPos ER (cell 0 c) 0 ∅ 0 : sProp 𝕄)) :=
    Entails.of_eq (bigSep_map (s := Finset.univ) sigEmb (Φ := fun g : GSem nD τ sig => (atPos ER g 0 ∅ 0 : sProp 𝕄)))
  have hopen : bigSep copyCells (fun g => (openTok ER g : sProp 𝕄)) ⊢ bigSep Finset.univ (fun c : Dev nD => (openers c : sProp 𝕄)) :=
    Entails.of_eq (by
      rw [bigSep_map, bigSep_univ_prod]
      exact bigSep_congr fun c _ => bigSep_univ_eq_bigSepL [(0 : Fin 4), 1, 2, 3] (by decide) (by decide) fun k => (openTok ER ((c : Thread nD τ), osem k) : sProp 𝕄))
  have hplain : (bigSep Finset.univ fun c : Dev nD => iprop(unscopedBufs c (fun b => m ((c : Thread nD τ).loc b)) ∗ unscopedSems0 c
        ∗ owes (c : Thread nD τ) (due c) ∅ ∗ Pipeline.launchCred due c ∗ prngReg c (ρ c) ∗ parked c))
      ⊢ (bigSep Finset.univ fun c : Dev nD => iprop(plain m c ∗ (semVal (cell 0 c) 0 ∗ parked c)) : sProp 𝕄) :=
    bigSep_mono fun c _ => plain_dealt m ρ c
  iintro ⟨H, -⟩
  ihave H1 := hplain $$ H
  ihave H2 := bigSep_unpair $$ H1; icases H2 with ⟨Hplain, H3⟩
  ihave H4 := bigSep_unpair $$ H3; icases H4 with ⟨Hsig, Hpark⟩
  ihave Hu := (Entails.of_eq (parked_all (F := F))) $$ Hpark
  imod (Rounds.fund_launch ER (sched m) ports_disjoint (fun g _ h => h) portToks) $$ [Hsig Hu] with ⟨%κ, -, #Hinv, #Hr, Hat, Hop, Htok⟩
  · isplitl [Hsig]
    · iapply hsig $$ Hsig
    · iexact Hu
  imodintro
  iapply (bigSep_with_persistent (R := records m κ) (Φ := fun c => iprop(holding c ∗ plain m c)) fun c _ => start_made m κ c)
  isplitr
  · unfold records
    isplitr; · iexact Hinv
    iexact Hr
  iapply bigSep_pair
  isplitr [Hplain]
  · unfold holding
    iapply bigSep_pair; isplitl [Hat]; · iapply hpos $$ Hat
    iapply bigSep_pair; isplitl [Hop]; · iapply hopen $$ Hop
    iapply (tokens_to_payers (F := F))
    iapply (Entails.of_eq (portToks_dealt (F := F))) $$ Htok
  · iexact Hplain

end Cert.KernelIdealExchange

end
-- ==== Proof.KernelIdeal.Run.lean ====
/-
  The run of the whole program: three reshapes, the kernel with its exchange, one reshape. Every run ends with the merged
  results in the result buffer, the arguments as they were, and every semaphore at zero.
-/
module

public import proofs.«01_k».proof.Proof.KernelIdeal.Deal
public import Idealize.ShloMosaic.Lib.Pipeline.ValueKit

@[expose] public section

noncomputable section

namespace Cert.KernelIdealExchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Smoke (bigSep_pair bigSep_unpair)
open Idealize.ShloMosaic.ValueIdx (ix2)
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's region -/

abbrev adm : (p : Fin 1) → (pcfgs (F := F) p).Adm := fun p => (cfgs p).toPCfg_adm

/-- The proof data of the one pipeline. -/
def pdats : (p : Fin 1) → (c : Dev nD) → Dat τ (Elt F) Unit ℕ UU ℕ (Pipeline.pin (pcfgs (F := F)) adm p) c
  | 0 => dat m
  | ⟨_ + 1, h⟩ => absurd h (Nat.not_lt.2 (Nat.le_add_left _ _))

/-- The unscoped buffers that are no array of the kernel. -/
abbrev others : Finset (DevRef τ sig) := Pipeline.ucRefs τ sig \ Pipeline.arrRefs (τ := τ) spec0

theorem arrays_in : Pipeline.arrRefs (τ := τ) spec0 ⊆ Pipeline.ucRefs τ sig := Pipeline.arrRefs_sub_ucRefs spec0 winFacts0.arr_unscoped

/-- The buffers when the kernel is done: its output array holds the merged results. -/
def VK (c : Dev nD) : Valuation τ sig (Elt F) := Function.update (V0 m c) (Proc.devRef .tc main_v4) (merged m c)

theorem VK_out (c : Dev nD) : VK m c (Proc.devRef .tc main_v4) = merged m c := Function.update_self ..
theorem VK_ne (c : Dev nD) {b : DevRef τ sig} (h : b ≠ Proc.devRef .tc main_v4) : VK m c b = V0 m c b := Function.update_of_ne h ..

theorem VK_others (c : Dev nD) (b : DevRef τ sig) (hb : b ∈ others \ ∅) : VK m c b = V0 m c b :=
  VK_ne m c fun e => by
    subst e
    rw [Finset.sdiff_empty] at hb
    refine (Finset.mem_sdiff.mp hb).2 (Finset.mem_map.mpr ⟨main_v4, Finset.mem_image.mpr ⟨3, Finset.mem_univ _, rfl⟩, rfl⟩)

/-- The kernel writes its output array once, whole, at the last point. -/
theorem out_whole : (cfg0.win 3).WholeAt t0_15 := by decide +kernel

theorem arrays_start (c : Dev nD) (w : Fin cfg0.W) : (pdats m 0 c).arrAt w 0 = V0 m c (Proc.devRef .tc (Pipeline.arrRef spec0 w)) := rfl

theorem arrays_end (c : Dev nD) (w : Fin cfg0.W) : (dat m c).arrAt w cfg0.N = VK m c (Proc.devRef .tc (Pipeline.arrRef spec0 w)) := by
  match w with
  | 0 => rw [VK_ne m c (b := Proc.devRef .tc (Pipeline.arrRef spec0 0)) (StableHlo.devRef_ne_of_ne (by decide))]; exact (dat m c).arrAt_in 0 rfl _
  | 1 => rw [VK_ne m c (b := Proc.devRef .tc (Pipeline.arrRef spec0 1)) (StableHlo.devRef_ne_of_ne (by decide))]; exact (dat m c).arrAt_in 1 rfl _
  | 2 => rw [VK_ne m c (b := Proc.devRef .tc (Pipeline.arrRef spec0 2)) (StableHlo.devRef_ne_of_ne (by decide))]; exact (dat m c).arrAt_in 2 rfl _
  | 3 =>
    refine (dat m c).arrAt_eq_of_after_last 3 t0_15 out_whole _ (fun j => ?_)
    exact (congrFun (VK_out m c) j).symm

theorem share_full (c : Dev nD) (w : Fin cfg0.W) : (pdats m 0 c).share w = fullShare := by unfold Dat.share; split <;> rfl

/-- The kernel opens its four copy ports when it is entered. -/
theorem ports_open (c : Dev nD) : iprop(Tk m c ∗ Pipeline.ownSems0 osem c ∗ levAts L lv) ⊢ (|={Set.univ}=> armed m c : sProp 𝕄) := by
  have hs : (Pipeline.ownSems0 osem c : sProp 𝕄) = iprop(semVal (cell 1 c) 0 ∗ semVal (cell 2 c) 0 ∗ semVal (cell 3 c) 0 ∗ semVal (cell 4 c) 0) :=
    bigSep_univ_eq_bigSepL [(0 : Fin 4), 1, 2, 3] (by decide) (by decide) fun k => (semVal ((c : Thread nD τ), osem k) 0 : sProp 𝕄)
  rw [hs]
  unfold Tk holding openers
  iintro ⟨⟨⟨%κ, #HR, Hat, ⟨Ho1, Ho2, Ho3, Ho4⟩, Hpay⟩, Hcr⟩, ⟨Hs1, Hs2, Hs3, Hs4⟩, #Hlev⟩
  imod (Rounds.cell_open ER (sched m) (g := cell 1 c) (Set.mem_univ (κ (cell 1 c)))) $$ [Ho1 Hs1] with ⟨Ha1, #Hr1⟩
  · isplitr; · iapply (inv_of m κ 1 c); iexact HR
    isplitl [Ho1] <;> iassumption
  imod (Rounds.cell_open ER (sched m) (g := cell 2 c) (Set.mem_univ (κ (cell 2 c)))) $$ [Ho2 Hs2] with ⟨Ha2, #Hr2⟩
  · isplitr; · iapply (inv_of m κ 2 c); iexact HR
    isplitl [Ho2] <;> iassumption
  imod (Rounds.cell_open ER (sched m) (g := cell 3 c) (Set.mem_univ (κ (cell 3 c)))) $$ [Ho3 Hs3] with ⟨Ha3, #Hr3⟩
  · isplitr; · iapply (inv_of m κ 3 c); iexact HR
    isplitl [Ho3] <;> iassumption
  imod (Rounds.cell_open ER (sched m) (g := cell 4 c) (Set.mem_univ (κ (cell 4 c)))) $$ [Ho4 Hs4] with ⟨Ha4, #Hr4⟩
  · isplitr; · iapply (inv_of m κ 4 c); iexact HR
    isplitl [Ho4] <;> iassumption
  imodintro
  unfold armed ready positions
  isplitl [Hat Ha1 Ha2 Ha3 Ha4 Hpay]
  · iexists κ
    isplitr; · iexact HR
    isplitr
    · isplitr; · iexact Hr1
      isplitr; · iexact Hr2
      isplitr; · iexact Hr3
      iexact Hr4
    isplitl [Hat Ha1 Ha2 Ha3 Ha4]
    · isplitl [Hat]; · iexact Hat
      isplitl [Ha1]; · iexact Ha1
      isplitl [Ha2]; · iexact Ha2
      isplitl [Ha3] <;> iassumption
    iexact Hpay
  isplitl [Hcr]; · iexact Hcr
  iexact Hlev

theorem nothing_held (c : Dev nD) (W : Valuation τ sig (Elt F)) : (StableHlo.held (c.tc : Thread nD τ) ∅ W : sProp 𝕄) = BI.emp := by
  unfold StableHlo.held; exact BI.bigSep_empty

/-- Entering: no row is written yet. -/
theorem entered (c : Dev nD) :
    iprop(Pipeline.scopedRest (Pipeline.pin (pcfgs (F := F)) adm 0).spec c ∗ (∃ r, prngReg c r) ∗ StableHlo.held (c.tc : Thread nD τ) ∅ (V0 m c) ∗ armed m c)
      ⊢ (pdats m 0 c).Φ 0 := by
  rw [show (pdats m 0 c).Φ 0 = filling m c 0 from Phi_filling m c (n := 0) (by decide),
    show (Pipeline.scopedRest (Pipeline.pin (pcfgs (F := F)) adm 0).spec c : sProp 𝕄) = iprop(hasAny cc0_scratch0 c ∗ hasAny cc0_scratch1 c ∗ hasAny cc0_scratch2 c ∗ hasAny cc0_scratch3 c)
      from scopedRest0_eq c]
  unfold filling
  iintro ⟨⟨⟨%f0, H0⟩, ⟨%f1, H1⟩, H2, H3⟩, Hp, -, Ha⟩
  isplitl [Ha]; · iexact Ha
  isplitl [H0]
  · iexists f0; isplitr
    · ipureintro; exact fun i h => absurd h (Nat.not_lt_zero _)
    · iexact H0
  isplitl [H1]
  · iexists f1; isplitr
    · ipureintro; exact fun i h => absurd h (Nat.not_lt_zero _)
    · iexact H1
  isplitl [H2]; · iexact H2
  isplitl [H3] <;> iassumption

/-- Leaving: the copy ports' counters and the scratch buffers go back. -/
theorem leaving (c : Dev nD) :
    (pdats m 0 c).Φ (Fin.last (Pipeline.pin (pcfgs (F := F)) adm 0).N)
      ⊢ iprop(Pipeline.scopedRest (Pipeline.pin (pcfgs (F := F)) adm 0).spec c ∗ (∃ r, prngReg c r) ∗ StableHlo.held (c.tc : Thread nD τ) ∅ (VK m c)
          ∗ Pipeline.ownSems0 osem c ∗ semVal (cell 0 c) 0) := by
  have hs : (Pipeline.ownSems0 osem c : sProp 𝕄) = iprop(semVal (cell 1 c) 0 ∗ semVal (cell 2 c) 0 ∗ semVal (cell 3 c) 0 ∗ semVal (cell 4 c) 0) :=
    bigSep_univ_eq_bigSepL [(0 : Fin 4), 1, 2, 3] (by decide) (by decide) fun k => (semVal ((c : Thread nD τ), osem k) 0 : sProp 𝕄)
  rw [show (pdats m 0 c).Φ (Fin.last (Pipeline.pin (pcfgs (F := F)) adm 0).N) = iprop(over c ∗ ∃ r, prngReg c r) from
      (congrArg (Phi m c) (show (Fin.last (Pipeline.pin (pcfgs (F := F)) adm 0).N).val = 16 from N_0)).trans (Phi_over m c),
    show (Pipeline.scopedRest (Pipeline.pin (pcfgs (F := F)) adm 0).spec c : sProp 𝕄) = iprop(hasAny cc0_scratch0 c ∗ hasAny cc0_scratch1 c ∗ hasAny cc0_scratch2 c ∗ hasAny cc0_scratch3 c)
      from scopedRest0_eq c, nothing_held, hs]
  unfold over counters
  iintro ⟨⟨H0, Hc, Hb⟩, Hp⟩
  isplitl [Hb]; · iexact Hb
  isplitl [Hp]; · iexact Hp
  isplitr; · iempintro
  isplitl [Hc] <;> iassumption

theorem owed_cut (c : Dev nD) (t : Fin (cfg0.N + 1)) (g : GSem nD τ sig) (i : Unit) (h : 0 < (pdats m 0 c).owed t g i) : i ∈ L g ∧ (0 : ℕ) < lv g i := by
  have e : (pdats m 0 c).owed t = if t.val < 16 then due c else 0 := rfl
  rw [e] at h
  split at h
  · rcases due_at h with rfl | rfl | rfl <;> exact ⟨by rw [L_tc]; exact Finset.mem_singleton_self _, by rw [lv_cell]; decide⟩
  · exact absurd h (Nat.lt_irrefl 0)

theorem owed_last (c : Dev nD) : (pdats m 0 c).owed (Fin.last (Pipeline.pin (pcfgs (F := F)) adm 0).N) = 0 := by
  show (if (Fin.last cfg0.N).val < 16 then due c else 0) = 0
  rw [Fin.val_last, if_neg (by rw [show cfg0.N = 16 from N_0]; decide)]

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem own_sems : Pipeline.OwnSemFacts spec0 osem := by decide

/-- The staging semaphores rank lowest. -/
theorem staging_low (w : Fin cfg0.W) (s : Fin (cfg0.win w).nbuf) : rank (portOf (.dma ((cfg0.win w).sem s))) = 0 := by
  revert s; revert w; decide

local notation "ℝ𝕊" => Pipeline.RegionSeg (pcfgs (F := F)) adm (pdats m) () defs₀ 𝒱₀ L lv

set_option backward.isDefEq.respectTransparency.types false in
/-- The kernel as a segment of the program. -/
def region : ℝ𝕊 0 :=
  Pipeline.RegionSeg.ofTalk (pcfgs (F := F)) adm (pdats m) () defs₀ 𝒱₀ L lv 0 osem own_sems
    ∅ others (Finset.empty_subset _) kit rfl (fun c => (body_ok m c).loose)
    (fun _ => 0) due (fun c => (zero_add (due c)).symm) (owed_last m)
    (fun _ => rfl) (share_full m)
    (V0 m) (VK m) (VK_others m)
    (Tk m) (fun c => semVal (cell 0 c) 0) (armed m) (fun c => semVal (cell 0 c) 0) (ports_open m) (entered m) (leaving m)
    (fun c => by iintro H; imodintro; iexact H)
    (fun _ => 0)
    ⟨fun c w s => by rw [L_tc]; exact Finset.mem_singleton_self _, fun c w s => le_of_eq (staging_low w s), owed_cut m⟩
    (fun _ => iprop(emp))
    (arrays_start m) (arrays_end m)

/-! ## The program -/

local notation "ℍ" => Pipeline.HostSeg (Name := ℕ) (U := UU) (pcfgs (F := F)) defs₀ 𝒱₀ L lv

theorem ops0_in : ∀ op ∈ (hostOps0 : List (HloOp τ sig (Elt F))), op.bufs ⊆ Pipeline.ucRefs τ sig := fun op h =>
  Pipeline.sub_ucRefs op (List.forall_iff_forall_mem.mp hostOps0_sub op h)
theorem ops1_in : ∀ op ∈ (hostOps1 : List (HloOp τ sig (Elt F))), op.bufs ⊆ Pipeline.ucRefs τ sig := fun op h =>
  Pipeline.sub_ucRefs op (List.forall_iff_forall_mem.mp hostOps1_sub op h)

/-- What a device carries beside its buffers after the kernel. -/
def rest (c : Dev nD) : sProp 𝕄 := iprop(semVal (cell 0 c) 0 ∗ ∃ W, owes (c : Thread nD τ) (0 : CellTallies nD τ sig Unit) W)

/-- The reshapes before the kernel. -/
def before : ℍ := Pipeline.HostSeg.ofOps _ _ _ _ _ (Pipeline.ucRefs τ sig) hostOps0 ops0_in (List.forall_iff_forall_mem.mp hostOps0_fresh) (fun c b => m (c, b)) (side m)
/-- The reshape after it. -/
def behind : ℍ := Pipeline.HostSeg.ofOps _ _ _ _ _ (Pipeline.ucRefs τ sig) hostOps1 ops1_in (List.forall_iff_forall_mem.mp hostOps1_fresh) (VK m) (rest (F := F))

def segs : List (Pipeline.Seg (pcfgs (F := F)) adm (pdats m) () defs₀ 𝒱₀ L lv) := [.host (before m), .region (region m), .host (behind m)]

/-- The buffers at the end. -/
def VEnd (c : Dev nD) : Valuation τ sig (Elt F) := StableHlo.after hostOps1 (VK m c)

theorem region_from (c : Dev nD) : iprop(StableHlo.held (c : Thread nD τ) (Pipeline.ucRefs τ sig) (StableHlo.after hostOps0 (fun b => m (c, b))) ∗ side m c) ⊢ (region m).pre c := by
  show _ ⊢ iprop(StableHlo.held (c.tc : Thread nD τ) (Pipeline.arrRefs (τ := τ) (pcfgs (F := F) 0).spec) (V0 m c) ∗ (∃ r, prngReg c r)
    ∗ (StableHlo.held (c.tc : Thread nD τ) others (V0 m c) ∗ emp) ∗ Tk m c ∗ ∃ Wd, owes (c : Thread nD τ) (0 + due c) Wd)
  rw [show StableHlo.after hostOps0 (fun b => m (c, b)) = V0 m c from rfl, StableHlo.held_sub_split (c.tc : Thread nD τ) arrays_in (V0 m c), zero_add]
  unfold side
  iintro ⟨⟨Ha, Ho⟩, HT, Hp, HO⟩
  isplitl [Ha]; · iexact Ha
  isplitl [Hp]; · iexact Hp
  isplitl [Ho]
  · isplitl [Ho]; · iexact Ho
    iempintro
  isplitl [HT] <;> iassumption

theorem region_to (c : Dev nD) : (region m).post c ⊢ iprop(StableHlo.held (c : Thread nD τ) (Pipeline.ucRefs τ sig) (VK m c) ∗ rest c) := by
  show iprop(StableHlo.held (c.tc : Thread nD τ) (Pipeline.arrRefs (τ := τ) (pcfgs (F := F) 0).spec) (VK m c) ∗ (∃ r, prngReg c r)
    ∗ (StableHlo.held (c.tc : Thread nD τ) others (VK m c) ∗ emp) ∗ semVal (cell 0 c) 0 ∗ ∃ Wd, owes (c : Thread nD τ) (0 : CellTallies nD τ sig Unit) Wd) ⊢ _
  rw [StableHlo.held_sub_split (c.tc : Thread nD τ) arrays_in (VK m c)]
  unfold rest
  iintro ⟨Ha, -, ⟨Ho, -⟩, Hs, HO⟩
  isplitl [Ha Ho]
  · isplitl [Ha]; · iexact Ha
    iexact Ho
  isplitl [Hs] <;> iassumption

/-- An argument ends as launched. -/
theorem VEnd_arg (c : Dev nD) (b : Ref sig .tc) (h5 : b ≠ main_v5) (h4 : b ≠ main_v4) : VEnd m c (Proc.devRef .tc b) = V m c b := by
  unfold VEnd
  rw [StableHlo.after_of_forall_not_mem (b := Proc.devRef .tc b) _ _ (List.forall_iff_forall_mem.mp (by
    simp only [hostOps1, List.Forall, StableHlo.reshape_writes, Finset.mem_singleton]
    exact StableHlo.devRef_ne_of_ne h5)), VK_ne m c (StableHlo.devRef_ne_of_ne h4)]

/-- The result, as an array: the merged results, reshaped. -/
def result (c : Dev nD) : Buf (Elt F) ((c : Thread nD τ).loc main_v5) := VEnd m c (Proc.devRef .tc main_v5)

/-- What is held at the end, the four buffers of interest on their own. -/
theorem held_end (c : Dev nD) : (StableHlo.held (c : Thread nD τ) (Pipeline.ucRefs τ sig) (VEnd m c) : sProp 𝕄)
    ⊢ iprop((((c : Thread nD τ).loc main_v5) ↦{fullShare} result m c) ∗ (((c : Thread nD τ).loc main_arg0) ↦{fullShare} m ((c : Thread nD τ).loc main_arg0))
        ∗ (((c : Thread nD τ).loc main_arg1) ↦{fullShare} m ((c : Thread nD τ).loc main_arg1)) ∗ (((c : Thread nD τ).loc main_arg2) ↦{fullShare} m ((c : Thread nD τ).loc main_arg2))) := by
  have h := bigSep_subset (Φ := fun b : DevRef τ sig => (((c, b) : Loc nD τ sig) ↦{fullShare} VEnd m c b : sProp 𝕄))
    (show ({Proc.devRef .tc main_v5, Proc.devRef .tc main_arg0, Proc.devRef .tc main_arg1, Proc.devRef .tc main_arg2} : Finset (DevRef τ sig)) ⊆ Pipeline.ucRefs τ sig from by decide)
  rw [bigSep_insert (by decide), bigSep_insert (by decide), bigSep_insert (by decide), bigSep_singleton,
    (VEnd_arg m c main_arg0 (by decide) (by decide)).trans (V_main_arg0 m c), (VEnd_arg m c main_arg1 (by decide) (by decide)).trans (V_main_arg1 m c),
    (VEnd_arg m c main_arg2 (by decide) (by decide)).trans (V_main_arg2 m c)] at h
  exact h

/-- The launch element: the pipeline library's, and the exchange's. -/
def u₀ : UU :=
  (initOf (Pipeline.cells (Pipeline.pin (pcfgs (F := F)) adm) cellOf_inj) (Pipeline.launchToks (Pipeline.pin (pcfgs (F := F)) adm) cellOf_inj),
    launchOf sigCells copyCells portToks)

theorem only_signal : ∀ sm : SemLoc sig, sm.isScoped .tc = false → sm = psem 0 := by decide

/-- What is read off a final state. -/
def Ends (c : Dev nD) (s : MemSt nD τ sig (Elt F)) : Prop :=
  s.mem ((c : Thread nD τ).loc main_v5) = result m c
    ∧ s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)

set_option backward.isDefEq.respectTransparency.types false in
/-- The run: from any memory with every semaphore at zero, every fair run of the program on the sixteen devices ends, with the
    merged results in every device's result buffer, the arguments unchanged, and every semaphore at zero. -/
theorem run_main : θ_run (defs (F := F)) (onTc (τ := τ) (main (F := F))) ⟨m, fun _ => 0, ρ⟩
    (fun r => (∀ c : Dev nD, Ends m c r.2) ∧ r.2.sem = fun _ => 0) :=
  Pipeline.θ_run_regions_kit_sems (pcfgs (F := F)) adm (pdats m) () cellOf_inj EP defs₀ 𝒱₀ L lv m ρ main (segs m)
    (fun c Q => by rw [main_segs adm (pdats m) () 𝒱₀ L lv (before m) (behind m) (region m) rfl rfl c]; rfl)
    (by simp only [segs, Pipeline.Seg.pipes_host, Pipeline.Seg.pipes_region, Pipeline.Seg.pipes_nil]; decide)
    (O₀ := due) (hL := L_of_ne) (G := parked) (u₀ := u₀ (F := F))
    (hu₀ := by
      unfold u₀
      iintro Hu
      ihave H := (ownU_pair _ _) $$ Hu
      icases H with ⟨HP, HX⟩
      imodintro
      isplitl [HP]; · iexact HP
      rw [parked_all]; iexact HX)
    (T₀ := T₀ m) (Tₙ := fun c => iprop(StableHlo.held (c : Thread nD τ) (Pipeline.ucRefs τ sig) (VEnd m c) ∗ semVal (cell 0 c) 0))
    (hch := by
      refine ⟨fun c => .rfl, fun c => region_from m c, fun c => region_to m c, fun c => ?_⟩
      show iprop(StableHlo.held (c : Thread nD τ) (Pipeline.ucRefs τ sig) (VEnd m c) ∗ rest c) ⊢ _
      unfold rest
      iintro ⟨Hh, Hs, HO⟩
      isplitr [HO]
      · isplitl [Hh] <;> iassumption
      · iexact HO)
    (hinit := init m ρ)
    (QY := fun c s => Ends m c s ∧ s.sem (cell 0 c) = 0)
    (hfin := fun c s' => by
      iintro ⟨⟨Hh, Hs⟩, HSI⟩
      ihave H := (held_end m c) $$ Hh
      icases H with ⟨H5, H0, H1, H2⟩
      icombine HSI H5 gives %e5
      icombine HSI H0 gives %e0
      icombine HSI H1 gives %e1
      icombine HSI H2 gives %e2
      icombine HSI Hs gives %es
      imodintro
      isplitr
      · ipureintro
        exact ⟨⟨Buf.eq_of_forall_mem_univ e5, Buf.eq_of_forall_mem_univ e0, Buf.eq_of_forall_mem_univ e1, Buf.eq_of_forall_mem_univ e2⟩, by simpa using es⟩
      iexact HSI)
    (hQ := fun s h hs => ⟨fun c => (h c).1, sem_eq_zero hs fun c sm hsm => by
        obtain rfl := only_signal sm hsm
        exact (h c).2⟩)

end Cert.KernelIdealExchange

end
-- ==== Proof.Value.Softmax.lean ====
/-
  The arithmetic of a softmax taken in two halves, over the extended reals.

  A row of scores is cut in two. Each half is shifted by its own maximum, exponentiated, summed, and used to weigh its
  half of the values; the two halves are then rescaled to the common maximum, added, and divided. When the scores are
  real this is the softmax of the whole row applied to the values, whatever the values are (infinite ones included):
  every factor that is moved across a sum is a nonnegative real.
-/
module

public import Idealize.ShloMosaic.PureOps.Ideal
public import Idealize.ShloMosaic.PureOps.Ideal.Laws

@[expose] public section

noncomputable section

namespace Cert.Softmax

open Idealize.ShloMosaic
open scoped BigOperators

variable {ι : Type} [Fintype ι]

/-! ## Sums of extended reals -/

/-- A sum of reals is real. -/
theorem coe_sum (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A nonnegative real factor moves into a sum, whatever the summands. -/
theorem mul_sum_of_nonneg (s : Finset ι) {c : ℝ} (hc : 0 ≤ c) (f : ι → EReal) :
    (c : EReal) * ∑ k ∈ s, f k = ∑ k ∈ s, (c : EReal) * f k := by
  classical
  induction s using Finset.induction_on with
  | empty => simp
  | insert a s ha ih =>
    rw [Finset.sum_insert ha, Finset.sum_insert ha,
      EReal.left_distrib_of_nonneg_of_ne_top (EReal.coe_nonneg.mpr hc) (EReal.coe_ne_top c), ih]

/-- The maximum of finitely many reals, at least one, is real. -/
theorem sup_real [Nonempty ι] (s : ι → ℝ) : ∃ M : ℝ, Finset.univ.sup (fun k => (s k : EReal)) = M := by
  obtain ⟨i, -, hi⟩ := Finset.exists_mem_eq_sup Finset.univ Finset.univ_nonempty (fun k => (s k : EReal))
  exact ⟨s i, hi⟩

/-- The maximum over a family in two halves is the larger of the halves' maxima. -/
theorem sup_halves {n : ℕ} (f : Fin (n + n) → EReal) :
    Finset.univ.sup f = max (Finset.univ.sup fun k => f (Fin.castAdd n k)) (Finset.univ.sup fun k => f (Fin.natAdd n k)) := by
  apply le_antisymm
  · refine Finset.sup_le fun k _ => ?_
    refine Fin.addCases (fun i => ?_) (fun i => ?_) k
    · exact le_max_of_le_left (Finset.le_sup (f := fun k => f (Fin.castAdd n k)) (Finset.mem_univ i))
    · exact le_max_of_le_right (Finset.le_sup (f := fun k => f (Fin.natAdd n k)) (Finset.mem_univ i))
  · exact max_le (Finset.sup_le fun i _ => Finset.le_sup (Finset.mem_univ _)) (Finset.sup_le fun i _ => Finset.le_sup (Finset.mem_univ _))

/-! ## Rescaling one half -/

/-- The exponential of a difference of reals. -/
theorem exp_sub (a b : ℝ) : Ideal.exp ((a : EReal) - b) = (Real.exp (a - b) : ℝ) := by
  rw [← EReal.coe_sub]; rfl

/-- Weights shifted by `M₀`, rescaled to the shift `M`. -/
theorem rescale (M₀ M : ℝ) (s : ι → ℝ) (v : ι → EReal) :
    Ideal.exp ((M₀ : EReal) - M) * ∑ k, Ideal.exp ((s k : EReal) - M₀) * v k = ∑ k, ((Real.exp (s k - M) : ℝ) : EReal) * v k := by
  rw [exp_sub, mul_sum_of_nonneg _ (Real.exp_pos _).le]
  refine Finset.sum_congr rfl fun k _ => ?_
  rw [exp_sub, ← mul_assoc, ← EReal.coe_mul, ← Real.exp_add]
  congr 3; ring

/-- The sum of the weights, rescaled likewise. -/
theorem rescale_sum (M₀ M : ℝ) (s : ι → ℝ) :
    Ideal.exp ((M₀ : EReal) - M) * ∑ k, Ideal.exp ((s k : EReal) - M₀) = ((∑ k, Real.exp (s k - M) : ℝ) : EReal) := by
  have h := rescale M₀ M s (fun _ => 1)
  simp only [mul_one] at h
  rw [h, coe_sum]

/-- Division by a positive real. -/
theorem div_pos (x : EReal) {L : ℝ} (hL : 0 < L) : Ideal.div x L = ((L⁻¹ : ℝ) : EReal) * x := by
  unfold Ideal.div
  rw [if_neg (by exact_mod_cast hL.ne'), EReal.coe_inv, mul_comm]

/-- A weighted sum divided by a positive real: each weight divided. -/
theorem div_weights {L : ℝ} (hL : 0 < L) (p : ι → ℝ) (v : ι → EReal) :
    ((L⁻¹ : ℝ) : EReal) * ∑ k, (p k : EReal) * v k = ∑ k, v k * Ideal.div (p k) L := by
  rw [mul_sum_of_nonneg _ (inv_nonneg.mpr hL.le)]
  refine Finset.sum_congr rfl fun k _ => ?_
  rw [div_pos _ hL, ← mul_assoc, mul_comm]

/-! ## The two halves together -/

/-- One half's weighted values, with the half's own maximum. -/
def weighted (s : ι → EReal) (v : ι → EReal) : EReal := ∑ k, Ideal.exp (s k - Finset.univ.sup s) * v k
/-- One half's sum of weights. -/
def total (s : ι → EReal) : EReal := ∑ k, Ideal.exp (s k - Finset.univ.sup s)

/-- Two halves rescaled to the common maximum, added and divided. -/
def combine (m₀ l₀ o₀ m₁ l₁ o₁ : EReal) : EReal :=
  Ideal.div (Ideal.exp (m₀ - max m₀ m₁) * o₀ + Ideal.exp (m₁ - max m₀ m₁) * o₁)
    (Ideal.exp (m₀ - max m₀ m₁) * l₀ + Ideal.exp (m₁ - max m₀ m₁) * l₁)

/-- It does not matter which half comes first. -/
theorem combine_comm (m₀ l₀ o₀ m₁ l₁ o₁ : EReal) : combine m₀ l₀ o₀ m₁ l₁ o₁ = combine m₁ l₁ o₁ m₀ l₀ o₀ := by
  unfold combine
  rw [max_comm m₁ m₀, add_comm (Ideal.exp (m₀ - max m₀ m₁) * o₀), add_comm (Ideal.exp (m₀ - max m₀ m₁) * l₀)]

/-- The softmax of a whole row, applied to the values. -/
def attend (s v : ι → EReal) : EReal :=
  ∑ k, v k * Ideal.div (Ideal.exp (s k - Finset.univ.sup s)) (∑ k', Ideal.exp (s k' - Finset.univ.sup s))

/-- Two halves of real scores combined are the softmax of the whole row, whatever the values. -/
theorem combine_eq {n : ℕ} [NeZero n] (s v : Fin (n + n) → EReal) (hs : ∀ k, ∃ r : ℝ, s k = r) :
    combine (Finset.univ.sup fun k => s (Fin.castAdd n k)) (total fun k => s (Fin.castAdd n k))
        (weighted (fun k => s (Fin.castAdd n k)) fun k => v (Fin.castAdd n k))
        (Finset.univ.sup fun k => s (Fin.natAdd n k)) (total fun k => s (Fin.natAdd n k))
        (weighted (fun k => s (Fin.natAdd n k)) fun k => v (Fin.natAdd n k))
      = attend s v := by
  choose r hr using hs
  obtain rfl : s = fun k => (r k : EReal) := funext hr
  obtain ⟨M₀, h₀⟩ := sup_real (fun k => r (Fin.castAdd n k))
  obtain ⟨M₁, h₁⟩ := sup_real (fun k => r (Fin.natAdd n k))
  obtain ⟨M, hM⟩ : ∃ M : ℝ, max (M₀ : EReal) M₁ = M := by
    rcases max_choice (M₀ : EReal) M₁ with h | h
    · exact ⟨M₀, h⟩
    · exact ⟨M₁, h⟩
  unfold combine attend weighted total
  rw [sup_halves, h₀, h₁, hM]
  rw [rescale, rescale, rescale_sum, rescale_sum, ← EReal.coe_add]
  simp only [exp_sub]
  rw [← coe_sum, Fin.sum_univ_add (f := fun k => Real.exp (r k - M))]
  have hL : 0 < ∑ k : Fin n, Real.exp (r (Fin.castAdd n k) - M) + ∑ k : Fin n, Real.exp (r (Fin.natAdd n k) - M) :=
    add_pos (Finset.sum_pos (fun _ _ => Real.exp_pos _) Finset.univ_nonempty)
      (Finset.sum_pos (fun _ _ => Real.exp_pos _) Finset.univ_nonempty)
  generalize ∑ k : Fin n, Real.exp (r (Fin.castAdd n k) - M) + ∑ k : Fin n, Real.exp (r (Fin.natAdd n k) - M) = L at hL ⊢
  rw [div_pos _ hL, EReal.left_distrib_of_nonneg_of_ne_top (EReal.coe_nonneg.mpr (inv_nonneg.mpr hL.le)) (EReal.coe_ne_top _),
    div_weights hL, div_weights hL, Fin.sum_univ_add]

/-! ## Sums against a head mask -/

/-- A sum over 1024 lanes in 16 groups of 64, masked to one group, is the sum over that group. -/
theorem sum_masked (f g : Fin 1024 → EReal) (h : Fin 16) :
    ∑ j : Fin 1024, f j * (g j * if j.val / 64 = h.val then 1 else 0)
      = ∑ e : Fin 64, f ⟨64 * h.val + e.val, by omega⟩ * g ⟨64 * h.val + e.val, by omega⟩ := by
  rw [← (finProdFinEquiv (m := 16) (n := 64)).sum_comp, Fintype.sum_prod_type, Finset.sum_eq_single h]
  · refine Finset.sum_congr rfl fun e _ => ?_
    have hv : (finProdFinEquiv (m := 16) (n := 64) (h, e)).val = 64 * h.val + e.val := by
      rw [finProdFinEquiv_apply_val]; simp only; omega
    have hj : (finProdFinEquiv (m := 16) (n := 64) (h, e)) = (⟨64 * h.val + e.val, by omega⟩ : Fin 1024) := Fin.ext hv
    rw [hj]
    simp only
    rw [if_pos (by omega), mul_one]
  · intro b _ hb
    refine Finset.sum_eq_zero fun e _ => ?_
    have hv : (finProdFinEquiv (m := 16) (n := 64) (b, e)).val = 64 * b.val + e.val := by
      rw [finProdFinEquiv_apply_val]; simp only; omega
    rw [if_neg (fun hc => hb (Fin.ext (by omega))), mul_zero, mul_zero]
  · intro hn; exact absurd (Finset.mem_univ h) hn

/-- A sum over 16 heads, masked to one head, is the term of that head. -/
theorem sum_masked_heads (f : Fin 16 → EReal) (j : Fin 1024) :
    ∑ h : Fin 16, f h * (if j.val / 64 = h.val then 1 else 0) = f ⟨j.val / 64, by omega⟩ := by
  rw [Finset.sum_eq_single ⟨j.val / 64, by omega⟩]
  · simp
  · intro b _ hb
    rw [if_neg (fun hc => hb (Fin.ext hc.symm)), mul_zero]
  · intro hn; exact absurd (Finset.mem_univ _) hn

end Cert.Softmax

end
-- ==== Proof.Value.Rows.lean ====
/-
  What the kernel's payloads hold at an index, over the extended reals.

  The kernel groups 1024 lanes into 16 heads of 64 by a mask, which it multiplies in: once into the query, so that one
  product gives every head's scores, and once onto the value product and the merge factors, to pick each lane's head.
-/
module

public import proofs.«01_k».proof.Proof.Gen.KernelIdeal.Skeleton
public import proofs.«01_k».proof.Proof.Value.Softmax
public import Idealize.ShloMosaic.Lib.Pipeline.Value
public import Idealize.ShloMosaic.Lib.MatmulPlain
public import Idealize.ShloMosaic.Lib.ValueIdx
public import Idealize.ShloMosaic.Lib.ValueLayout

@[expose] public section

noncomputable section

namespace Cert.DecodeValue

open Cert.KernelIdeal Cert.KernelIdeal.Gen
open Idealize.ShloMosaic
open Idealize.ShloMosaic.ValueIdx
open Cert.Softmax
open scoped BigOperators

/-! ## The head mask -/

/-- The head of a lane as the kernel computes it: the quotient by 64, corrected towards −∞. -/
def headWord (j : BitVec 32) : BitVec 32 :=
  Scalar.select
    (IntOp.andi
      (IntOp.cmpi .ne
        (IntOp.subi ((IntOp.cmpi .sgt j 0#32).setWidth 32) ((IntOp.cmpi .slt j 0#32).setWidth 32))
        (Scalar.subi (Scalar.extui (Scalar.cmpi .sgt 64#32 0#32)) (Scalar.extui (Scalar.cmpi .slt 64#32 0#32))))
      (IntOp.cmpi .ne (IntOp.remsi .vector j 64#32) 0#32))
    (IntOp.subi (IntOp.divsi .vector j 64#32) 1#32) (IntOp.divsi .vector j 64#32)

/-- On the 1024 lanes it is the quotient. -/
theorem headWord_eq : ∀ j : Fin 1024, headWord (BitVec.ofNat 32 j.val) = BitVec.ofNat 32 (j.val / 64) := by
  decide +kernel

/-- The mask's word for two heads. -/
theorem headBit_eq : ∀ a h : Fin 16, ((IntOp.cmpi .eq (BitVec.ofNat 32 a.val) (BitVec.ofNat 32 h.val)).setWidth 32).toInt
    = if a.val = h.val then 1 else 0 := by
  decide +kernel

/-- A mask entry: 1 where the lane's head is `h`, 0 elsewhere. -/
theorem mask_entry (j : Fin 1024) (h : Fin 16) :
    ((((IntOp.cmpi .eq (headWord (BitVec.ofNat 32 j.val)) (BitVec.ofNat 32 h.val)).setWidth 32).toInt : ℝ) : EReal)
      = if j.val / 64 = h.val then 1 else 0 := by
  rw [headWord_eq, headBit_eq ⟨j.val / 64, by omega⟩ h]
  simp only
  split <;> simp

/-- The mask of the merge at head `h`, lane `j`. -/
theorem pay7_apply (h : Fin 16) (j : Fin 1024) :
    k0_pay7 (F := Ideal) (ix2 h j) = if j.val / 64 = h.val then 1 else 0 := by
  rw [← mask_entry]
  have h0 : iota .tc S16x1024 32 [0] iota_S16x1024_d0_w32 (ix2 h j) = BitVec.ofNat 32 h.val := iota_single_apply ..
  have h1 : iota .tc S16x1024 32 [1] iota_S16x1024_d1_w32 (ix2 h j) = BitVec.ofNat 32 j.val := iota_single_apply ..
  unfold k0_pay7
  simp only [sitofp, extui, cmpi, select, andi, subi, divsi, remsi, broadcast, h0, h1]
  rfl

/-! ## Scores -/

/-- The scores before scaling: each key row against the query's lanes of head `h`. -/
theorem pay12_apply (q : Vec Ideal S1x1024x1 .f32) (kb : Vec Ideal S1x1024x1024 .f32) (k : Fin 1024) (h : Fin 16) :
    k0_pay12 (F := Ideal) q kb (ix2 k h)
      = ∑ e : Fin 64, kb (ix3 0 k ⟨64 * h.val + e.val, by omega⟩) * q (ix3 0 ⟨64 * h.val + e.val, by omega⟩ 0) := by
  rw [← sum_masked (fun j => kb (ix3 0 k j)) (fun j => q (ix3 0 j 0)) h]
  unfold k0_pay12
  simp only [matmul]
  rw [show dot_S1024x1024_S1024x16_S1024x16_1_0_0_1_n_n = DotDims.plain 1024 1024 16 from rfl, Ideal.matmul_plain_apply,
    constant_apply, Ideal.ofBits_zero_f32, zero_add]
  refine Finset.sum_congr rfl fun j _ => ?_
  rw [truncf_apply, truncf_apply, mulf_apply, shapeCast_1ab_ab_apply, ← mask_entry]
  congr 1
  congr 1
  · refine (broadcastTo_apply _ _ (ix2 j h) (ix2 j 0) fun a => ?_).trans (shapeCast_1ab_ab_apply _ _ _ _)
    match a with
    | ⟨0, _⟩ => rfl
    | ⟨1, _⟩ => rfl
  · have h0 : iota .tc S1024x16 32 [0] iota_S1024x16_d0_w32 (ix2 j h) = BitVec.ofNat 32 j.val := iota_single_apply ..
    have h1 : iota .tc S1024x16 32 [1] iota_S1024x16_d1_w32 (ix2 j h) = BitVec.ofNat 32 h.val := iota_single_apply ..
    simp only [sitofp, extui, cmpi, select, andi, subi, divsi, remsi, broadcast, h0, h1]
    rfl

/-- The scores at key `k`, head `h`. -/
def scoreAt (v39 v40 : FVec Ideal S1024x16 .f32) (h : Fin 16) (k : Fin 1024) : EReal := k0_pay14 v39 v40 (ix2 k h)

/-- The largest of a family, as the reductions fold it from −∞. -/
theorem fold_max_eq_sup {ι : Type} [Fintype ι] (f : ι → EReal) : Finset.univ.fold max (⊥ : EReal) f = Finset.univ.sup f := rfl

/-- The word of −∞. -/
theorem ofBits_neg_inf : (FloatOps.ofBits (F := Ideal) .f32 0xFF800000#32 : EReal) = ⊥ := by
  simp [FloatOps.ofBits, Ideal.ofBits, Ideal.ieee]

/-- The row maxima. -/
theorem pay15_apply (v39 v40 : FVec Ideal S1024x16 .f32) (h : Fin 16) :
    k0_pay15 v39 v40 (ix2 0 h) = Finset.univ.sup (scoreAt v39 v40 h) := by
  unfold k0_pay15
  refine (shapeCast_a_1a_apply _ _ _ _).trans ?_
  refine (Ideal.multiReduction_maximumf_single (s := S1024x16) (t := S16) (a := (0 : Fin 2)) _ _ reduces_S1024x16_S16 _ _ _).trans ?_
  rw [ofBits_neg_inf]
  refine (fold_max_eq_sup _).trans (congrArg Finset.univ.sup (funext fun k => ?_))
  exact congrArg (k0_pay14 v39 v40) (eq_ix2 _)

/-- The weights. -/
theorem pay16_apply (v39 v40 : FVec Ideal S1024x16 .f32) (h : Fin 16) (k : Fin 1024) :
    k0_pay16 v39 v40 (ix2 k h) = Ideal.exp (scoreAt v39 v40 h k - Finset.univ.sup (scoreAt v39 v40 h)) := by
  rw [← pay15_apply]
  unfold k0_pay16
  change Ideal.exp (k0_pay14 v39 v40 (ix2 k h) - broadcastTo S1024x16 (k0_pay15 v39 v40) broadcasts_S1x16_S1024x16 (ix2 k h)) = _
  rw [broadcastTo_1b_ab_apply]
  rfl

/-- The sums of the weights. -/
theorem pay17_apply (v39 v40 : FVec Ideal S1024x16 .f32) (h : Fin 16) :
    k0_pay17 v39 v40 (ix2 0 h) = total (scoreAt v39 v40 h) := by
  unfold k0_pay17 total
  refine (shapeCast_a_1a_apply _ _ _ _).trans ?_
  refine (Ideal.multiReduction_add_single (s := S1024x16) (t := S16) (a := (0 : Fin 2)) _ _ reduces_S1024x16_S16 _ _ _).trans ?_
  refine Finset.sum_congr rfl fun k _ => ?_
  exact (congrArg (k0_pay16 v39 v40) (eq_ix2 _)).trans (pay16_apply v39 v40 h k)

/-- A cast to the same shape changes nothing. -/
theorem shapeCast_same {s : Shape} {α : Type} (x : s.Idx → α) (h : s.ShapeCasts s) : shapeCast s x h = x :=
  funext fun j => shapeCast_apply x h j j rfl

/-- The stored row maxima. -/
theorem pay19_apply (v39 v40 : FVec Ideal S1024x16 .f32) (h : Fin 16) :
    k0_pay19 v39 v40 (ix2 0 h) = Finset.univ.sup (scoreAt v39 v40 h) := by
  unfold k0_pay19
  rw [shapeCast_same, pay15_apply]

/-- The stored sums of weights. -/
theorem pay1_pay17_apply (v39 v40 : FVec Ideal S1024x16 .f32) (h : Fin 16) :
    k0_pay1 (k0_pay17 v39 v40) (ix2 0 h) = total (scoreAt v39 v40 h) := by
  unfold k0_pay1
  rw [shapeCast_same, pay17_apply]

/-! ## Weighted values -/

/-- The product of weights and values at head `h`, lane `j`: keys contracted. -/
theorem weights_values_apply (w : FVec Ideal S1024x16 .bf16) (v : FVec Ideal S1024x1024 .bf16) (acc : FVec Ideal S16x1024 .f32)
    (h : Fin 16) (j : Fin 1024) :
    FloatOps.matmul dot_S1024x16_S1024x1024_S16x1024_0_0_1_1_n_n none w v acc (ix2 h j)
      = acc (ix2 h j) + ∑ k : Fin 1024, w (ix2 k h) * v (ix2 k j) := by
  have hr : dot_S1024x16_S1024x1024_S16x1024_0_0_1_1_n_n.contr.rank = 1 := rfl
  have hz : dot_S1024x16_S1024x1024_S16x1024_0_0_1_1_n_n.contr.size ⟨0, by rw [hr]; exact Nat.one_pos⟩ = 1024 := rfl
  rw [Ideal.matmul_apply, ← (contrEquiv1 _ 1024 hr hz).symm.sum_comp]
  refine congrArg (acc (ix2 h j) + ·) (Finset.sum_congr rfl fun k _ => ?_)
  have hk := contrEquiv1_symm_val _ 1024 hr hz k
  refine congrArg₂ (· * ·) (congrArg w ?_) (congrArg v ?_)
  · funext a; apply Fin.ext
    match a with
    | ⟨0, _⟩ => exact hk
    | ⟨1, _⟩ => rfl
  · funext a; apply Fin.ext
    match a with
    | ⟨0, _⟩ => exact hk
    | ⟨1, _⟩ => rfl

/-- The stored weighted values: lane `j` belongs to head `j / 64`. -/
theorem pay2_pay18_apply (vb : Vec Ideal S1x1024x1024 .f32) (v39 v40 : FVec Ideal S1024x16 .f32) (j : Fin 1024) :
    k0_pay2 (k0_pay18 (k0_pay11 vb) v39 v40) (ix2 0 j)
      = weighted (scoreAt v39 v40 ⟨j.val / 64, by omega⟩) (fun k => vb (ix3 0 k j)) := by
  unfold k0_pay2 k0_pay18
  rw [shapeCast_same]
  refine (shapeCast_a_1a_apply _ _ _ _).trans ?_
  refine (Ideal.multiReduction_add_single (s := S16x1024) (t := S1024) (a := (0 : Fin 2)) _ _ reduces_S16x1024_S1024 _ _ _).trans ?_
  rw [← sum_masked_heads (fun h => weighted (scoreAt v39 v40 h) (fun k => vb (ix3 0 k j))) j]
  refine Finset.sum_congr rfl fun h _ => ?_
  refine (congrArg _ (eq_ix2 _)).trans ?_
  refine (mulf_apply _ _ _).trans ?_
  refine congrArg₂ (· * ·) ?_ ?_
  · simp only [matmul]
    refine (weights_values_apply _ _ _ _ _).trans ?_
    rw [constant_apply, Ideal.ofBits_zero_f32, zero_add]
    refine Finset.sum_congr rfl fun k _ => ?_
    rw [truncf_apply, truncf_apply]
    refine congrArg₂ (· * ·) (pay16_apply _ _ _ _) ?_
    unfold k0_pay11
    exact shapeCast_1ab_ab_apply _ _ _ _
  · exact pay7_apply h j

/-! ## The merge -/

/-- A factor per head and batch row spread over the lanes: lane `j` takes the factor of its head. -/
theorem spread_apply (a : FVec Ideal S16x16 .f32) (b : Fin 16) (j : Fin 1024) :
    matmul dot_S16x16_S16x1024_S16x1024_1_0_0_1_n_n none a (k0_pay7 (F := Ideal)) (constant S16x1024 .f32 0x00000000#32) (ix2 b j)
      = a (ix2 b ⟨j.val / 64, by omega⟩) := by
  simp only [matmul]
  rw [show dot_S16x16_S16x1024_S16x1024_1_0_0_1_n_n = DotDims.plain 16 16 1024 from rfl, Ideal.matmul_plain_apply,
    constant_apply, Ideal.ofBits_zero_f32, zero_add, ← sum_masked_heads (fun h => a (ix2 b h)) j]
  exact Finset.sum_congr rfl fun h _ => congrArg (a (ix2 b h) * ·) (pay7_apply h j)

/-- The merged result at batch row `b`, lane `j`. -/
theorem merge_apply (m₀ l₀ m₁ l₁ : Vec Ideal S16x16 .f32) (o₀ o₁ : Vec Ideal S16x1024 .f32) (b : Fin 16) (j : Fin 1024) :
    k0_pay3 (k0_pay8 m₀ l₀ m₁ l₁) (k0_pay9 m₀ m₁ o₀) (k0_pay10 m₀ m₁ o₁) (ix3 b 0 j)
      = combine (m₀ (ix2 b ⟨j.val / 64, by omega⟩)) (l₀ (ix2 b ⟨j.val / 64, by omega⟩)) (o₀ (ix2 b j))
          (m₁ (ix2 b ⟨j.val / 64, by omega⟩)) (l₁ (ix2 b ⟨j.val / 64, by omega⟩)) (o₁ (ix2 b j)) := by
  unfold k0_pay3 k0_pay8 k0_pay9 k0_pay10
  refine (shapeCast_apply _ _ (ix3 b 0 j) (ix2 b j) ?_).trans ?_
  · rw [Shape.rowMajor_val_three, Shape.rowMajor_val_two]
    change b.val * 1024 + j.val = (b.val * 1 + 0) * 1024 + j.val
    omega
  rw [divf_apply, addf_apply, mulf_apply, mulf_apply, spread_apply, spread_apply, spread_apply]
  rfl

end Cert.DecodeValue

end
-- ==== Proof.Value.Blocks.lean ====
/-
  What each device reads and puts out, in the entries of its argument arrays.

  The query, keys and values are reshaped before the kernel so that the 16 heads of 64 lie side by side in 1024 lanes;
  grid point `b` reads batch row `b`. The merged result is reshaped back.
-/
module

public import proofs.«01_k».proof.Proof.KernelIdeal.Run
public import proofs.«01_k».proof.Proof.Value.Rows

@[expose] public section

noncomputable section

namespace Cert.DecodeValue

open Cert.KernelIdeal Cert.KernelIdeal.Gen Cert.KernelIdealExchange
open Idealize.ShloMosaic hiding ix1 ix2 ix3 ix4 ix5
open Idealize.ShloMosaic.TcCoe
open Idealize.ShloMosaic.ValueIdx
open Cert.Softmax
open scoped BigOperators

variable (m : (ℓ : Loc nD τ sig) → Buf (Elt Ideal) ℓ)

/-! ## The reshaped arguments -/

/-- A device's query, keys and values. -/
def argQ (c : Dev nD) : Vec Ideal S16x1x16x64 .f32 := m ((c : Thread nD τ).loc main_arg0)
def argK (c : Dev nD) : Vec Ideal S16x1024x16x64 .f32 := m ((c : Thread nD τ).loc main_arg1)
def argV (c : Dev nD) : Vec Ideal S16x1024x16x64 .f32 := m ((c : Thread nD τ).loc main_arg2)

theorem V_q (c : Dev nD) : V m c main_v1 = shapeCast S16x1024x1 (argQ m c) shapeCasts_S16x1x16x64_S16x1024x1 := by
  change StableHlo.after hostOps0 (fun b => m (c, b)) (Proc.devRef .tc main_v1) = _
  after_results
  rfl
theorem V_k (c : Dev nD) : V m c main_v2 = shapeCast S16x1024x1024 (argK m c) shapeCasts_S16x1024x16x64_S16x1024x1024 := by
  change StableHlo.after hostOps0 (fun b => m (c, b)) (Proc.devRef .tc main_v2) = _
  after_results
  rfl
theorem V_v (c : Dev nD) : V m c main_v3 = shapeCast S16x1024x1024 (argV m c) shapeCasts_S16x1024x16x64_S16x1024x1024 := by
  change StableHlo.after hostOps0 (fun b => m (c, b)) (Proc.devRef .tc main_v3) = _
  after_results
  rfl

theorem index_q : ∀ t : Fin cfg0.N, win0_0.index t 0 = t.val ∧ win0_0.index t 1 = 0 ∧ win0_0.index t 2 = 0 := by decide +kernel
theorem index_k : ∀ t : Fin cfg0.N, win0_1.index t 0 = t.val ∧ win0_1.index t 1 = 0 ∧ win0_1.index t 2 = 0 := by decide +kernel
theorem index_v : ∀ t : Fin cfg0.N, win0_2.index t 0 = t.val ∧ win0_2.index t 1 = 0 ∧ win0_2.index t 2 = 0 := by decide +kernel

theorem val_lt_16 (t : Fin cfg0.N) : t.val < 16 := lt_of_lt_of_eq t.isLt N_0

/-- The query block of point `t` at lane `64 h + e`. -/
theorem qBlk_apply (c : Dev nD) (t : Fin cfg0.N) (h : Fin 16) (e : Fin 64) :
    qBlk m c t (ix3 0 ⟨64 * h.val + e.val, by omega⟩ 0) = argQ m c (ix4 ⟨t.val, val_lt_16 t⟩ 0 h e) := by
  obtain ⟨h0, h1, h2⟩ := index_q t
  unfold qBlk iblk
  rw [View.read_apply]
  change V m c main_v1 _ = _
  rw [V_q]
  refine shapeCast_apply _ _ _ _ ?_
  rw [Shape.rowMajor_val_three, Shape.rowMajor_val_four]
  change ((t.val * 1 + 0) * 16 + h.val) * 64 + e.val
    = ((win0_0.index t 0 * 1 + 1 * 0) * 1024 + (win0_0.index t 1 * 1024 + 1 * (64 * h.val + e.val))) * 1 + (win0_0.index t 2 * 1 + 1 * 0)
  rw [h0, h1, h2]; omega

/-- The key block of point `t` at row `k`, lane `64 h + e`. -/
theorem kBlk_apply (c : Dev nD) (t : Fin cfg0.N) (k : Fin 1024) (h : Fin 16) (e : Fin 64) :
    kBlk m c t (ix3 0 k ⟨64 * h.val + e.val, by omega⟩) = argK m c (ix4 ⟨t.val, val_lt_16 t⟩ k h e) := by
  obtain ⟨h0, h1, h2⟩ := index_k t
  unfold kBlk iblk
  rw [View.read_apply]
  change V m c main_v2 _ = _
  rw [V_k]
  refine shapeCast_apply _ _ _ _ ?_
  rw [Shape.rowMajor_val_three, Shape.rowMajor_val_four]
  change ((t.val * 1024 + k.val) * 16 + h.val) * 64 + e.val
    = ((win0_1.index t 0 * 1 + 1 * 0) * 1024 + (win0_1.index t 1 * 1024 + 1 * k.val)) * 1024 + (win0_1.index t 2 * 1024 + 1 * (64 * h.val + e.val))
  rw [h0, h1, h2]; omega

/-- The value block of point `t` at row `k`, lane `64 h + e`. -/
theorem vBlk_apply (c : Dev nD) (t : Fin cfg0.N) (k : Fin 1024) (h : Fin 16) (e : Fin 64) :
    vBlk m c t (ix3 0 k ⟨64 * h.val + e.val, by omega⟩) = argV m c (ix4 ⟨t.val, val_lt_16 t⟩ k h e) := by
  obtain ⟨h0, h1, h2⟩ := index_v t
  unfold vBlk iblk
  rw [View.read_apply]
  change V m c main_v3 _ = _
  rw [V_v]
  refine shapeCast_apply _ _ _ _ ?_
  rw [Shape.rowMajor_val_three, Shape.rowMajor_val_four]
  change ((t.val * 1024 + k.val) * 16 + h.val) * 64 + e.val
    = ((win0_2.index t 0 * 1 + 1 * 0) * 1024 + (win0_2.index t 1 * 1024 + 1 * k.val)) * 1024 + (win0_2.index t 2 * 1024 + 1 * (64 * h.val + e.val))
  rw [h0, h1, h2]; omega

/-! ## A device's partial results -/

/-- The scale of the scores, one eighth. -/
def scale : EReal := FloatOps.ofBits (F := Ideal) .f32 0x3E000000#32

/-- The score of key row `k` of a device at batch row `b`, head `h`. -/
def score (q : Vec Ideal S16x1x16x64 .f32) (kk : Vec Ideal S16x1024x16x64 .f32) (b h : Fin 16) (k : Fin 1024) : EReal :=
  (∑ e : Fin 64, q (ix4 b 0 h e) * kk (ix4 b k h e)) * scale

theorem scoreAt_eq (c : Dev nD) (t : Fin cfg0.N) (h : Fin 16) :
    scoreAt (scores m c t) k0_pay13 h = score (argQ m c) (argK m c) ⟨t.val, val_lt_16 t⟩ h := by
  funext k
  unfold scoreAt k0_pay14 score
  rw [mulf_apply]
  unfold scores
  rw [pay12_apply]
  refine congrArg₂ (· * ·) (Finset.sum_congr rfl fun e _ => ?_) rfl
  rw [kBlk_apply, qBlk_apply, mul_comm]

/-- The grid point of a batch row is the row. -/
theorem pointOf_row (b : Fin 16) : (⟨(pointOf b.val).val, val_lt_16 _⟩ : Fin 16) = b := Fin.ext (Nat.mod_eq_of_lt b.isLt)

/-- A device's maxima, sums of weights and weighted values at batch row `b`. -/
theorem mAll_apply (c : Dev nD) (b h : Fin 16) : mAll m c (ix2 b h) = Finset.univ.sup (score (argQ m c) (argK m c) b h) := by
  change mRow m c (pointOf b.val) (ix2 0 h) = _
  unfold mRow
  rw [pay19_apply, scoreAt_eq, pointOf_row]
theorem lAll_apply (c : Dev nD) (b h : Fin 16) : lAll m c (ix2 b h) = total (score (argQ m c) (argK m c) b h) := by
  change lRow m c (pointOf b.val) (ix2 0 h) = _
  unfold lRow
  rw [pay1_pay17_apply, scoreAt_eq, pointOf_row]
theorem oFin_apply (c : Dev nD) (b h : Fin 16) (e : Fin 64) :
    oFin m c (ix2 b ⟨64 * h.val + e.val, by omega⟩)
      = weighted (score (argQ m c) (argK m c) b h) (fun k => argV m c (ix4 b k h e)) := by
  change oRow m c (pointOf b.val) (ix2 0 ⟨64 * h.val + e.val, by omega⟩) = _
  unfold oRow
  rw [pay2_pay18_apply, show (⟨(64 * h.val + e.val) / 64, by omega⟩ : Fin 16) = h from Fin.ext (by simp only; omega), scoreAt_eq, pointOf_row]
  congr 1
  funext k
  rw [vBlk_apply, pointOf_row]

/-! ## The result -/

theorem result_merged (c : Dev nD) : result m c = shapeCast S16x1x16x64 (merged m c) shapeCasts_S16x1x1024_S16x1x16x64 := by
  rw [← VK_out m c]
  unfold result VEnd
  generalize VK m c = W
  after_results
  rfl

/-- A device's result at batch row `b`, head `h`, coordinate `e`: its own half and its mate's, combined. -/
theorem result_apply (c : Dev nD) (b h : Fin 16) (e : Fin 64) :
    (result m c : Vec Ideal S16x1x16x64 .f32) (ix4 b 0 h e)
      = combine (Finset.univ.sup (score (argQ m c) (argK m c) b h)) (total (score (argQ m c) (argK m c) b h))
          (weighted (score (argQ m c) (argK m c) b h) fun k => argV m c (ix4 b k h e))
          (Finset.univ.sup (score (argQ m (mate c)) (argK m (mate c)) b h)) (total (score (argQ m (mate c)) (argK m (mate c)) b h))
          (weighted (score (argQ m (mate c)) (argK m (mate c)) b h) fun k => argV m (mate c) (ix4 b k h e)) := by
  rw [result_merged]
  refine (shapeCast_apply _ _ (ix4 b 0 h e) (ix3 b 0 ⟨64 * h.val + e.val, by omega⟩) ?_).trans ?_
  · rw [Shape.rowMajor_val_three, Shape.rowMajor_val_four]
    change (b.val * 1 + 0) * 1024 + (64 * h.val + e.val) = ((b.val * 1 + 0) * 16 + h.val) * 64 + e.val
    omega
  unfold merged
  rw [merge_apply, show (⟨(64 * h.val + e.val) / 64, by omega⟩ : Fin 16) = h from Fin.ext (by simp only; omega),
    mAll_apply, mAll_apply, lAll_apply, lAll_apply, oFin_apply, oFin_apply]

end Cert.DecodeValue

end
-- ==== Proof.Value.Reference.lean ====
/-
  What the reference computes, entry by entry: the softmax of each row of 2048 scores, applied to the values.
-/
module

public import proofs.«01_k».proof.Proof.Gen.ReferenceIdeal.Run
public import proofs.«01_k».proof.Proof.Value.Softmax
public import Idealize.ShloMosaic.Lib.Pipeline.Value
public import Idealize.ShloMosaic.Lib.ValueIdx
public import Idealize.ShloMosaic.Lib.ValueLayout
public import Idealize.ShloMosaic.Lib.IdealHost
public import Idealize.ShloMosaic.Lib.KernelVsHost

@[expose] public section

noncomputable section

namespace Cert.DecodeReference

open Cert.ReferenceIdeal Cert.ReferenceIdeal.Gen
open Idealize.ShloMosaic
open Idealize.ShloMosaic.TcCoe
open Idealize.ShloMosaic.ValueIdx
open Cert.Softmax
open scoped BigOperators

/-! ## The stages -/

/-- The scaled scores. -/
def scores (q : FVec Ideal S16x1x16x64 .f32) (kk : FVec Ideal S16x2048x16x64 .f32) : FVec Ideal S16x16x1x2048 .f32 :=
  mulf (Host.dotGeneral dot_S16x1x16x64_S16x2048x16x64_S16x16x1x2048_3_3_1_1_02_02 none q kk)
    (broadcastInDim S16x16x1x2048 ![] bcast_S_S16x16x1x2048 (constant S_ .f32 0x3E000000#32))

/-- A row value spread along its row. -/
def spread (x : FVec Ideal S16x16x1 .f32) : FVec Ideal S16x16x1x2048 .f32 :=
  broadcastInDim S16x16x1x2048 ![0, 1, 2, 3] bcast_S16x16x1x1_S16x16x1x2048_0_1_2_3
    (broadcastInDim S16x16x1x1 ![0, 1, 2] bcast_S16x16x1_S16x16x1x1_0_1_2 x)

/-- Each row's maximum. -/
def rowMax (s : FVec Ideal S16x16x1x2048 .f32) : FVec Ideal S16x16x1 .f32 :=
  Host.reduce FloatOps.maximumf s (constant S_ .f32 0xFF800000#32) reducesTo_S16x16x1x2048_S16x16x1_d3 h_S_

/-- Each row's sum. -/
def rowSum (s : FVec Ideal S16x16x1x2048 .f32) : FVec Ideal S16x16x1 .f32 :=
  Host.reduceAdd s (constant S_ .f32 0x00000000#32) reducesTo_S16x16x1x2048_S16x16x1_d3 h_S_

/-- The exponentials of the shifted scores. -/
def weights (s : FVec Ideal S16x16x1x2048 .f32) : FVec Ideal S16x16x1x2048 .f32 := Host.exp (subf s (spread (rowMax s)))

/-- The values weighed. -/
def output (v : FVec Ideal S16x2048x16x64 .f32) (w : FVec Ideal S16x16x1x2048 .f32) : FVec Ideal S16x1x16x64 .f32 :=
  transpose S16x1x16x64 [0, 3, 1, 2]
    (Host.dotGeneral dot_S16x2048x16x64_S16x16x1x2048_S16x16x64x1_1_3_3_2_02_01 none v (Host.divf w (spread (rowSum w))))
    transposes_S16x16x64x1_S16x1x16x64_0_3_1_2

/-- The reference's result on its three arrays. -/
def attention (q : FVec Ideal S16x1x16x64 .f32) (kk v : FVec Ideal S16x2048x16x64 .f32) : FVec Ideal S16x1x16x64 .f32 :=
  output v (weights (scores q kk))

/-- The reference ends with `attention` of its arguments, and the arguments as they were. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v13)
          = attention (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.ReferenceIdeal.Value.run (F := Ideal) m ρ

/-! ## The stages at an index -/

theorem reduces : S16x16x1x2048.Reduces [3] S16x16x1 := by decide

/-- The score of key `k` at batch row `b`, head `h`. -/
def score (q : FVec Ideal S16x1x16x64 .f32) (kk : FVec Ideal S16x2048x16x64 .f32) (b h : Fin 16) (k : Fin 2048) : EReal :=
  (∑ e : Fin 64, q (ix4 b 0 h e) * kk (ix4 b k h e)) * FloatOps.ofBits (F := Ideal) .f32 0x3E000000#32

theorem scores_apply (q : FVec Ideal S16x1x16x64 .f32) (kk : FVec Ideal S16x2048x16x64 .f32) (b h : Fin 16) (k : Fin 2048) :
    scores q kk (ix4 b h 0 k) = score q kk b h k := by
  have hr : dot_S16x1x16x64_S16x2048x16x64_S16x16x1x2048_3_3_1_1_02_02.contr.rank = 1 := rfl
  have hz : dot_S16x1x16x64_S16x2048x16x64_S16x16x1x2048_3_3_1_1_02_02.contr.size ⟨0, by rw [hr]; exact Nat.one_pos⟩ = 64 := rfl
  unfold scores score
  rw [mulf_apply, broadcastInDim_scalar_apply]
  refine congrArg₂ (· * ·) ?_ rfl
  simp only [Host.dotGeneral]
  rw [Ideal.dotGeneral_apply, ← (contrEquiv1 _ 64 hr hz).symm.sum_comp]
  refine Finset.sum_congr rfl fun e _ => ?_
  have hk := contrEquiv1_symm_val _ 64 hr hz e
  refine congrArg₂ (· * ·) (congrArg q ?_) (congrArg kk ?_)
  · funext a; apply Fin.ext
    match a with
    | ⟨0, _⟩ => rfl
    | ⟨1, _⟩ => rfl
    | ⟨2, _⟩ => rfl
    | ⟨3, _⟩ => exact hk
  · funext a; apply Fin.ext
    match a with
    | ⟨0, _⟩ => rfl
    | ⟨1, _⟩ => rfl
    | ⟨2, _⟩ => rfl
    | ⟨3, _⟩ => exact hk

theorem spread_apply (x : FVec Ideal S16x16x1 .f32) (b h : Fin 16) (k : Fin 2048) : spread x (ix4 b h 0 k) = x (ix3 b h 0) := by
  unfold spread
  refine (broadcastInDim_apply _ _ _ (ix4 b h 0 k) (ix4 b h 0 0) fun a => ?_).trans (broadcastInDim_apply _ _ _ (ix4 b h 0 0) (ix3 b h 0) fun a => ?_)
  · match a with
    | ⟨0, _⟩ => rfl
    | ⟨1, _⟩ => rfl
    | ⟨2, _⟩ => rfl
    | ⟨3, _⟩ => rfl
  · match a with
    | ⟨0, _⟩ => rfl
    | ⟨1, _⟩ => rfl
    | ⟨2, _⟩ => rfl

/-- A row of an array of scores. -/
def row (s : FVec Ideal S16x16x1x2048 .f32) (b h : Fin 16) (k : Fin 2048) : EReal := s (ix4 b h 0 k)

theorem lift_row (b h : Fin 16) (k : Fin 2048) : reduces.lift (ix3 b h 0) k = ix4 b h 0 k := by
  funext a; apply Fin.ext
  match a with
  | ⟨0, _⟩ => rfl
  | ⟨1, _⟩ => rfl
  | ⟨2, _⟩ => rfl
  | ⟨3, _⟩ => rfl

theorem ofBits_neg_inf : (FloatOps.ofBits (F := Ideal) .f32 0xFF800000#32 : EReal) = ⊥ := by
  simp [FloatOps.ofBits, Ideal.ofBits, Ideal.ieee]

theorem rowMax_apply (s : FVec Ideal S16x16x1x2048 .f32) (b h : Fin 16) : rowMax s (ix3 b h 0) = Finset.univ.sup (row s b h) := by
  unfold rowMax
  rw [hostReduce_maximumf_eq_multiReduction s 0xFF800000#32 reducesTo_S16x16x1x2048_S16x16x1_d3 h_S_ reduces (.inl rfl) rfl]
  refine (Ideal.multiReduction_maximumf_single (s := S16x16x1x2048) (t := S16x16x1) (a := (3 : Fin 4)) _ _ reduces _ _ _).trans ?_
  rw [ofBits_neg_inf]
  change Finset.univ.sup (s ∘ reduces.lift (ix3 b h 0)) = _
  exact congrArg Finset.univ.sup (funext fun k => congrArg s (lift_row b h k))

theorem rowSum_apply (s : FVec Ideal S16x16x1x2048 .f32) (b h : Fin 16) : rowSum s (ix3 b h 0) = ∑ k, row s b h k := by
  unfold rowSum
  rw [hostReduceAdd_apply]
  refine (Ideal.hostReduceAdd_single (s := S16x16x1x2048) (t := S16x16x1) (a := (3 : Fin 4)) _ reduces _ _ _).trans ?_
  rw [constant_apply, Ideal.ofBits_zero_f32, zero_add]
  exact Finset.sum_congr rfl fun k _ => congrArg s (lift_row b h k)

theorem weights_apply (s : FVec Ideal S16x16x1x2048 .f32) (b h : Fin 16) (k : Fin 2048) :
    row (weights s) b h k = Ideal.exp (row s b h k - Finset.univ.sup (row s b h)) := by
  rw [← rowMax_apply, ← spread_apply (rowMax s) b h k]
  rfl

theorem output_apply (v : FVec Ideal S16x2048x16x64 .f32) (w : FVec Ideal S16x16x1x2048 .f32) (b h : Fin 16) (e : Fin 64) :
    output v w (ix4 b 0 h e) = ∑ k : Fin 2048, v (ix4 b k h e) * Ideal.div (row w b h k) (∑ k', row w b h k') := by
  have hr : dot_S16x2048x16x64_S16x16x1x2048_S16x16x64x1_1_3_3_2_02_01.contr.rank = 1 := rfl
  have hz : dot_S16x2048x16x64_S16x16x1x2048_S16x16x64x1_1_3_3_2_02_01.contr.size ⟨0, by rw [hr]; exact Nat.one_pos⟩ = 2048 := rfl
  unfold output
  refine (transpose_apply _ _ _ (ix4 b 0 h e) (ix4 b h e 0) fun a => ?_).trans ?_
  · match a with
    | ⟨0, _⟩ => rfl
    | ⟨1, _⟩ => rfl
    | ⟨2, _⟩ => rfl
    | ⟨3, _⟩ => rfl
  simp only [Host.dotGeneral]
  rw [Ideal.dotGeneral_apply, ← (contrEquiv1 _ 2048 hr hz).symm.sum_comp]
  refine Finset.sum_congr rfl fun k _ => ?_
  have hk := contrEquiv1_symm_val _ 2048 hr hz k
  rw [← rowSum_apply, ← spread_apply (rowSum w) b h k]
  change _ = v (ix4 b k h e) * Host.divf w (spread (rowSum w)) (ix4 b h 0 k)
  refine congrArg₂ (· * ·) (congrArg v ?_) (congrArg (Host.divf w (spread (rowSum w))) ?_)
  · funext a; apply Fin.ext
    match a with
    | ⟨0, _⟩ => rfl
    | ⟨1, _⟩ => exact hk
    | ⟨2, _⟩ => rfl
    | ⟨3, _⟩ => rfl
  · funext a; apply Fin.ext
    match a with
    | ⟨0, _⟩ => rfl
    | ⟨1, _⟩ => rfl
    | ⟨2, _⟩ => rfl
    | ⟨3, _⟩ => exact hk

/-- The reference at batch row `b`, head `h`, coordinate `e`: the softmax of the row of scores, applied to the values. -/
theorem attention_apply (q : FVec Ideal S16x1x16x64 .f32) (kk v : FVec Ideal S16x2048x16x64 .f32) (b h : Fin 16) (e : Fin 64) :
    attention q kk v (ix4 b 0 h e) = attend (score q kk b h) (fun k => v (ix4 b k h e)) := by
  unfold attention attend
  have hs : row (scores q kk) b h = score q kk b h := funext fun k => scores_apply q kk b h k
  rw [output_apply, ← hs]
  simp only [weights_apply]

end Cert.DecodeReference

end
-- ==== Proof.Value.Equal.lean ====
/-
  The kernel's result and the reference's are equal, when the queries and the keys are real numbers.

  Device `c` holds keys and values `1024 (c / 8)` to `1024 (c / 8) + 1023` of each batch row, so a device and its mate
  hold the two halves of every row between them.
-/
module

public import proofs.«01_k».proof.Proof.Value.Blocks
public import proofs.«01_k».proof.Proof.Value.Reference
public import Idealize.ShloMosaic.Lib.Layout

@[expose] public section

noncomputable section

namespace Cert.DecodeValue

open Cert.KernelIdeal Cert.KernelIdeal.Gen Cert.KernelIdealExchange
open Idealize.ShloMosaic hiding ix1 ix2 ix3 ix4 ix5
open Idealize.ShloMosaic.TcCoe
open Idealize.ShloMosaic.ValueIdx
open Cert.Softmax
open scoped BigOperators

/-! ## The halves -/

/-- The whole arrays' shape. -/
abbrev Whole : Shape := ⟨4, ![16, 2048, 16, 64]⟩

/-- Where key `k` of device `c` lies in the whole row. -/
def key (c : Dev nD) (k : Fin 1024) : Fin (1024 + 1024) := ⟨c.val / 8 * 1024 + k.val, by have := c.isLt; have : nD = 16 := rfl; omega⟩

theorem half_of : ∀ c : Fin 16, Layout.meshLin [2, 2, 4] c.val [0] = c.val / 8 := by decide

/-- A device's block of a whole array, at an entry. -/
theorem block_apply (c : Dev nD) (x : FVec Ideal Whole .f32) (b : Fin 16) (k : Fin 1024) (h : Fin 16) (e : Fin 64) :
    (Layout.blockN S16x1024x16x64 Whole (Layout.meshBlock [2, 2, 4] ![[], [0], [], []] c) x : S16x1024x16x64.Idx → EReal) (ix4 b k h e)
      = x (ix4 b (key c k) h e) := by
  rw [Layout.blockN_apply]
  refine congrArg x ?_
  funext a; apply Fin.ext
  match a with
  | ⟨0, _⟩ => change 0 * 16 + b.val = b.val; omega
  | ⟨1, _⟩ =>
    change Layout.meshLin [2, 2, 4] c.val [0] * 1024 + k.val = c.val / 8 * 1024 + k.val
    rw [half_of c]
  | ⟨2, _⟩ => change 0 * 16 + h.val = h.val; omega
  | ⟨3, _⟩ => change 0 * 64 + e.val = e.val; omega

theorem key_first (c : Dev nD) (hc : c.val < 8) : key c = Fin.castAdd 1024 ∧ key (mate c) = Fin.natAdd 1024 := by
  constructor <;> funext k <;> apply Fin.ext
  · change c.val / 8 * 1024 + k.val = k.val
    omega
  · change (c.val + 8) % 16 / 8 * 1024 + k.val = 1024 + k.val
    omega

theorem key_second (c : Dev nD) (hc : ¬ c.val < 8) : key c = Fin.natAdd 1024 ∧ key (mate c) = Fin.castAdd 1024 := by
  have hlt : c.val < 16 := c.isLt
  constructor <;> funext k <;> apply Fin.ext
  · change c.val / 8 * 1024 + k.val = 1024 + k.val
    omega
  · change (c.val + 8) % 16 / 8 * 1024 + k.val = k.val
    omega

/-- Every key of the whole row lies on some device. -/
theorem key_surjective (k : Fin 2048) : ∃ (c : Dev nD) (k' : Fin 1024), key c k' = k := by
  by_cases hk : k.val < 1024
  · exact ⟨⟨0, by decide⟩, ⟨k.val, hk⟩, Fin.ext (by change 0 / 8 * 1024 + k.val = k.val; omega)⟩
  · exact ⟨⟨8, by decide⟩, ⟨k.val - 1024, by omega⟩, Fin.ext (by change 8 / 8 * 1024 + (k.val - 1024) = k.val; omega)⟩

/-! ## Real entries -/

theorem ofBits_pos_inf : (Ideal.ofBits .f32 0x7F800000#32 : EReal) = ⊤ := by
  simp [Ideal.ofBits, Ideal.ieee]

/-- An array whose absolute values all lie below infinity holds real numbers. -/
theorem real_of_abs_lt {s : Shape} (x : FVec Ideal s .f32) (hb : (⟨0, ![]⟩ : Shape).BroadcastsInDim s (![] : Fin 0 → Fin s.rank))
    (hx : cmpf .olt (Host.absf x) (broadcastInDim s ![] hb (constant ⟨0, ![]⟩ .f32 0x7F800000#32)) = fun _ => 1#1) (i : s.Idx) :
    ∃ r : ℝ, (x i : EReal) = r := by
  have h := congrFun hx i
  rw [cmpf_apply, broadcastInDim_scalar_apply, constant_apply, ofBits_pos_inf, Ideal.cmpf_def] at h
  have hlt : max (x i : EReal) (-(x i : EReal)) < ⊤ := by
    by_contra hn
    have h' : BitVec.ofBool (decide (max (x i : EReal) (-(x i : EReal)) < ⊤)) = 1#1 := h
    rw [decide_eq_false hn] at h'
    exact absurd h' (by decide)
  obtain ⟨h1, h2⟩ := max_lt_iff.mp hlt
  refine ⟨(x i : EReal).toReal, (EReal.coe_toReal h1.ne fun hbot => ?_).symm⟩
  rw [hbot, EReal.neg_bot] at h2
  exact lt_irrefl _ h2

theorem scale_real : ∃ r : ℝ, (FloatOps.ofBits (F := Ideal) .f32 0x3E000000#32 : EReal) = r := by
  simp only [FloatOps.ofBits, Ideal.ofBits, Ideal.ieee]
  simp
  exact ⟨_, (EReal.coe_mul _ _).symm⟩

/-- A score of real queries and keys is real. -/
theorem score_real (q : FVec Ideal S16x1x16x64 .f32) (kk : FVec Ideal Whole .f32) (hq : ∀ i, ∃ r : ℝ, (q i : EReal) = r)
    (hk : ∀ i, ∃ r : ℝ, (kk i : EReal) = r) (b h : Fin 16) (k : Fin 2048) : ∃ r : ℝ, DecodeReference.score q kk b h k = r := by
  obtain ⟨s, hs⟩ := scale_real
  choose rq hq using hq
  choose rk hk using hk
  refine ⟨(∑ e : Fin 64, rq (ix4 b 0 h e) * rk (ix4 b k h e)) * s, ?_⟩
  unfold DecodeReference.score
  rw [hs, EReal.coe_mul, coe_sum]
  refine congrArg (· * (s : EReal)) (Finset.sum_congr rfl fun e _ => ?_)
  rw [hq, hk, EReal.coe_mul]

/-! ## The comparison -/

variable (m : (ℓ : Loc nD τ sig) → Buf (Elt Ideal) ℓ)

/-- With each device's arrays its part of the whole ones, and queries and keys real, every device's result is the
    reference's. -/
theorem result_eq (q : FVec Ideal S16x1x16x64 .f32) (kk v : FVec Ideal Whole .f32)
    (hQ : ∀ c, argQ m c = q)
    (hK : ∀ c : Dev nD, argK m c = Layout.blockN S16x1024x16x64 Whole (Layout.meshBlock [2, 2, 4] ![[], [0], [], []] c) kk)
    (hV : ∀ c : Dev nD, argV m c = Layout.blockN S16x1024x16x64 Whole (Layout.meshBlock [2, 2, 4] ![[], [0], [], []] c) v)
    (realQ : ∀ c i, ∃ r : ℝ, (argQ m c i : EReal) = r) (realK : ∀ c i, ∃ r : ℝ, (argK m c i : EReal) = r) (c : Dev nD) :
    (result m c : Vec Ideal S16x1x16x64 .f32) = DecodeReference.attention q kk v := by
  have hq : ∀ i, ∃ r : ℝ, (q i : EReal) = r := fun i => by rw [← hQ c]; exact realQ c i
  have hk : ∀ i, ∃ r : ℝ, (kk i : EReal) = r := fun i => by
    obtain ⟨b, k, h, e, rfl⟩ : ∃ (b : Fin 16) (k : Fin 2048) (h : Fin 16) (e : Fin 64), i = ix4 b k h e := ⟨_, _, _, _, ValueIdx.eq_ix4 i⟩
    obtain ⟨c', k', rfl⟩ := key_surjective k
    rw [← block_apply c' kk b k' h e, ← hK c']
    exact realK c' _
  have hs : ∀ (c : Dev nD) (b h : Fin 16), score (argQ m c) (argK m c) b h = fun k => DecodeReference.score q kk b h (key c k) := by
    intro c b h
    funext k
    unfold score DecodeReference.score scale
    rw [hQ c, hK c]
    exact congrArg (· * _) (Finset.sum_congr rfl fun e _ => congrArg (q (ix4 b 0 h e) * ·) (block_apply c kk b k h e))
  have hv : ∀ (c : Dev nD) (b h : Fin 16) (e : Fin 64), (fun k => (argV m c (ix4 b k h e) : EReal)) = fun k => v (ix4 b (key c k) h e) := by
    intro c b h e
    funext k
    rw [hV c]
    exact block_apply c v b k h e
  funext i
  obtain ⟨b, z, h, e, rfl⟩ : ∃ (b : Fin 16) (z : Fin 1) (h : Fin 16) (e : Fin 64), i = ix4 b z h e := ⟨_, _, _, _, ValueIdx.eq_ix4 i⟩
  obtain rfl : z = 0 := Subsingleton.elim _ _
  rw [DecodeReference.attention_apply, result_apply, hs c, hs (mate c), hv c, hv (mate c)]
  have main := combine_eq (n := 1024) (DecodeReference.score q kk b h) (fun k => v (ix4 b k h e)) (score_real q kk hq hk b h)
  by_cases hc : c.val < 8
  · rw [(key_first c hc).1, (key_first c hc).2]
    exact main
  · rw [(key_second c hc).1, (key_second c hc).2, combine_comm]
    exact main

end Cert.DecodeValue

end
-- ==== Proof.lean ====
module

public import proofs.«01_k».proof.Defs
public import proofs.«01_k».proof.Proof.Kernel.Run
public import proofs.«01_k».proof.Proof.KernelIdeal.Run
public import proofs.«01_k».proof.Proof.Gen.ReferenceIdeal
public import proofs.«01_k».proof.Proof.Gen.ReferenceIdeal.Run
public import proofs.«01_k».proof.Proof.Gen.Pre_finite_qk_KernelIdeal
public import proofs.«01_k».proof.Proof.Gen.Pre_finite_qk_ReferenceIdeal
public import proofs.«01_k».proof.Proof.Value.Equal

@[expose] public section

noncomputable section

namespace Cert.Proof

open Idealize.ShloMosaic Idealize.SL.Sem

/-- The kernel, at the bit-level floats: every device's run ends, the arguments unchanged and every counter zero. -/
theorem frame_kernel : Cert.quiescent_Kernel := fun m ρ _ =>
  (θ_run Cert.Kernel.defs _ _).mono (fun _ h => ⟨fun c => (h.1 c).2, h.2⟩)
    (Cert.KernelExchange.run_main (F := Bits) m ρ)

/-- The same at the ideal floats. -/
theorem frame_kernelIdeal : Cert.quiescent_KernelIdeal := fun m ρ _ =>
  (θ_run Cert.KernelIdeal.defs _ _).mono (fun _ h => ⟨fun c => (h.1 c).2, h.2⟩)
    (Cert.KernelIdealExchange.run_main (F := Ideal) m ρ)

/-- The reference: its run ends, the arguments unchanged; it has no semaphores. -/
theorem frame_referenceIdeal : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- From real queries and keys, every device of the kernel ends with the reference's result. -/
theorem algebraic : Cert.algebraic_KernelIdeal_ReferenceIdeal_pre_finite_qk_KernelIdeal := fun m ρ m' ρ' hp hm =>
  ⟨Cert.DecodeReference.attention
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2)),
    (θ_run Cert.KernelIdeal.defs _ _).mono
      (fun _ h c => ⟨(h.1 c).1.trans (Cert.DecodeValue.result_eq m _ _ _ (fun c => (hm c).1) (fun c => (hm c).2.1) (fun c => (hm c).2.2)
        (fun c => Cert.DecodeValue.real_of_abs_lt _ _ (hp c).1) (fun c => Cert.DecodeValue.real_of_abs_lt _ _ (hp c).2) c), (h.1 c).2⟩)
      (Cert.KernelIdealExchange.run_main (F := Ideal) m ρ),
    (θ_run Cert.ReferenceIdeal.defs _ _).mono (fun _ h => h 0) (Cert.DecodeReference.run m' ρ')⟩

theorem claim : Cert.Claim :=
  ⟨Cert.Kernel.Gen.facts, Cert.KernelIdeal.Gen.facts, Cert.ReferenceIdeal.Gen.facts,
    Cert.Pre_finite_qk_KernelIdeal.Gen.facts, Cert.Pre_finite_qk_ReferenceIdeal.Gen.facts,
    frame_kernel, frame_kernelIdeal, fun m ρ _ => frame_kernelIdeal m ρ trivial,
    frame_referenceIdeal, fun m ρ _ => frame_referenceIdeal m ρ trivial, trivial, algebraic⟩

end Cert.Proof

end
